-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x64 : Shape := ⟨2, ![1024, 64]⟩
abbrev S64x1024 : Shape := ⟨2, ![64, 1024]⟩
abbrev S1024x1024 : Shape := ⟨2, ![1024, 1024]⟩
abbrev S15x64x1024 : Shape := ⟨3, ![15, 64, 1024]⟩
abbrev S16 : Shape := ⟨1, ![16]⟩
abbrev S15 : Shape := ⟨1, ![15]⟩
abbrev S_ : Shape := ⟨0, ![]⟩
abbrev S1 : Shape := ⟨1, ![1]⟩
abbrev S1x64x1024 : Shape := ⟨3, ![1, 64, 1024]⟩

abbrev nBuf : Space → Nat
  | .hbm => 3
  | .vmem => 5
  | .smem => 0
  | _ => 0

abbrev bufTy : (tb : Table) → Fin (tcTables nBuf tb) → BufTy
  | .hbm, ⟨0, _⟩ => ⟨S1024x64, .f32⟩
  | .hbm, ⟨1, _⟩ => ⟨S64x1024, .f32⟩
  | .hbm, ⟨2, _⟩ => ⟨S64x1024, .f32⟩
  | .local _ .vmem, ⟨0, _⟩ => ⟨S1024x64, .f32⟩
  | .local _ .vmem, ⟨1, _⟩ => ⟨S64x1024, .f32⟩
  | .local _ .vmem, ⟨2, _⟩ => ⟨S64x1024, .f32⟩
  | .local _ .vmem, ⟨3, _⟩ => ⟨S1024x1024, .bf16⟩
  | .local _ .vmem, ⟨4, _⟩ => ⟨S15x64x1024, .bf16⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_263 : BitVec 32 := 0#32
  let c0_i32_261 : BitVec 32 := 0#32
  let c1_i32_262 : BitVec 32 := 1#32
  let v343 : BitVec 32 := Scalar.muli c0_i32_261 c1_i32_262
  let v344 : BitVec 32 := Scalar.addi c0_i32_263 v343
  v344.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_263 : BitVec 32 := 0#32
  let c1_i32_261 : BitVec 32 := 1#32
  let c1_i32_262 : BitVec 32 := 1#32
  let v343 : BitVec 32 := Scalar.muli c1_i32_261 c1_i32_262
  let v344 : BitVec 32 := Scalar.addi c0_i32_263 v343
  v344.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_263 : BitVec 32 := 0#32
  let c2_i32_261 : BitVec 32 := 2#32
  let c1_i32_262 : BitVec 32 := 1#32
  let v343 : BitVec 32 := Scalar.muli c2_i32_261 c1_i32_262
  let v344 : BitVec 32 := Scalar.addi c0_i32_263 v343
  v344.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_263 : BitVec 32 := 0#32
  let c3_i32_261 : BitVec 32 := 3#32
  let c1_i32_262 : BitVec 32 := 1#32
  let v343 : BitVec 32 := Scalar.muli c3_i32_261 c1_i32_262
  let v344 : BitVec 32 := Scalar.addi c0_i32_263 v343
  v344.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_263 : BitVec 32 := 0#32
  let c4_i32_261 : BitVec 32 := 4#32
  let c1_i32_262 : BitVec 32 := 1#32
  let v343 : BitVec 32 := Scalar.muli c4_i32_261 c1_i32_262
  let v344 : BitVec 32 := Scalar.addi c0_i32_263 v343
  v344.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_263 : BitVec 32 := 0#32
  let c5_i32_261 : BitVec 32 := 5#32
  let c1_i32_262 : BitVec 32 := 1#32
  let v343 : BitVec 32 := Scalar.muli c5_i32_261 c1_i32_262
  let v344 : BitVec 32 := Scalar.addi c0_i32_263 v343
  v344.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_263 : BitVec 32 := 0#32
  let c6_i32_261 : BitVec 32 := 6#32
  let c1_i32_262 : BitVec 32 := 1#32
  let v343 : BitVec 32 := Scalar.muli c6_i32_261 c1_i32_262
  let v344 : BitVec 32 := Scalar.addi c0_i32_263 v343
  v344.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_263 : BitVec 32 := 0#32
  let c7_i32_261 : BitVec 32 := 7#32
  let c1_i32_262 : BitVec 32 := 1#32
  let v343 : BitVec 32 := Scalar.muli c7_i32_261 c1_i32_262
  let v344 : BitVec 32 := Scalar.addi c0_i32_263 v343
  v344.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_263 : BitVec 32 := 0#32
  let c8_i32_261 : BitVec 32 := 8#32
  let c1_i32_262 : BitVec 32 := 1#32
  let v343 : BitVec 32 := Scalar.muli c8_i32_261 c1_i32_262
  let v344 : BitVec 32 := Scalar.addi c0_i32_263 v343
  v344.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_263 : BitVec 32 := 0#32
  let c9_i32_261 : BitVec 32 := 9#32
  let c1_i32_262 : BitVec 32 := 1#32
  let v343 : BitVec 32 := Scalar.muli c9_i32_261 c1_i32_262
  let v344 : BitVec 32 := Scalar.addi c0_i32_263 v343
  v344.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_263 : BitVec 32 := 0#32
  let c10_i32_261 : BitVec 32 := 10#32
  let c1_i32_262 : BitVec 32 := 1#32
  let v343 : BitVec 32 := Scalar.muli c10_i32_261 c1_i32_262
  let v344 : BitVec 32 := Scalar.addi c0_i32_263 v343
  v344.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_263 : BitVec 32 := 0#32
  let c11_i32_261 : BitVec 32 := 11#32
  let c1_i32_262 : BitVec 32 := 1#32
  let v343 : BitVec 32 := Scalar.muli c11_i32_261 c1_i32_262
  let v344 : BitVec 32 := Scalar.addi c0_i32_263 v343
  v344.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_263 : BitVec 32 := 0#32
  let c12_i32_261 : BitVec 32 := 12#32
  let c1_i32_262 : BitVec 32 := 1#32
  let v343 : BitVec 32 := Scalar.muli c12_i32_261 c1_i32_262
  let v344 : BitVec 32 := Scalar.addi c0_i32_263 v343
  v344.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_263 : BitVec 32 := 0#32
  let c13_i32_261 : BitVec 32 := 13#32
  let c1_i32_262 : BitVec 32 := 1#32
  let v343 : BitVec 32 := Scalar.muli c13_i32_261 c1_i32_262
  let v344 : BitVec 32 := Scalar.addi c0_i32_263 v343
  v344.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_263 : BitVec 32 := 0#32
  let c14_i32_261 : BitVec 32 := 14#32
  let c1_i32_262 : BitVec 32 := 1#32
  let v343 : BitVec 32 := Scalar.muli c14_i32_261 c1_i32_262
  let v344 : BitVec 32 := Scalar.addi c0_i32_263 v343
  v344.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_263 : BitVec 32 := 0#32
  let c15_i32_261 : BitVec 32 := 15#32
  let c1_i32_262 : BitVec 32 := 1#32
  let v343 : BitVec 32 := Scalar.muli c15_i32_261 c1_i32_262
  let v344 : BitVec 32 := Scalar.addi c0_i32_263 v343
  v344.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_23 : BitVec 32 := 0#32
  let v63 : BitVec 1 := Scalar.cmpi .ne v2 c0_i32_23
  let v64 : BitVec 32 := Scalar.extui v63
  let c0_i32_24 : BitVec 32 := 0#32
  let v65 : BitVec 1 := Scalar.cmpi .ne v64 c0_i32_24
  v65

def k0_off1 (d0 : Dev nD) : Fin 1 → Nat :=
  let c0_i32_260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c0_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  ![v354.toNat]
def k0_off2 (d0 : Dev nD) : Fin 3 → Nat :=
  let c0_i32_260 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c0_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  let c0_i32_272 : BitVec 32 := 0#32
  let c0_i32_273 : BitVec 32 := 0#32
  ![v354.toNat, 0, 0]
def k0_dev17 : Nat :=
  let c0_i32_271 : BitVec 32 := 0#32
  let c0_i32_269 : BitVec 32 := 0#32
  let c1_i32_270 : BitVec 32 := 1#32
  let v355 : BitVec 32 := Scalar.muli c0_i32_269 c1_i32_270
  let v356 : BitVec 32 := Scalar.addi c0_i32_271 v355
  v356.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_25 : BitVec 32 := 1#32
  let v66 : BitVec 1 := Scalar.cmpi .ne v2 c1_i32_25
  let v67 : BitVec 32 := Scalar.extui v66
  let c0_i32_26 : BitVec 32 := 0#32
  let v68 : BitVec 1 := Scalar.cmpi .ne v67 c0_i32_26
  v68

def k0_off3 (d0 : Dev nD) : Fin 1 → Nat :=
  let c1_i32_260 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c1_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  ![v354.toNat]
def k0_off4 (d0 : Dev nD) : Fin 3 → Nat :=
  let c1_i32_260 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c1_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  let c0_i32_272 : BitVec 32 := 0#32
  let c0_i32_273 : BitVec 32 := 0#32
  ![v354.toNat, 0, 0]
def k0_dev18 : Nat :=
  let c0_i32_271 : BitVec 32 := 0#32
  let c1_i32_269 : BitVec 32 := 1#32
  let c1_i32_270 : BitVec 32 := 1#32
  let v355 : BitVec 32 := Scalar.muli c1_i32_269 c1_i32_270
  let v356 : BitVec 32 := Scalar.addi c0_i32_271 v355
  v356.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_27 : BitVec 32 := 2#32
  let v69 : BitVec 1 := Scalar.cmpi .ne v2 c2_i32_27
  let v70 : BitVec 32 := Scalar.extui v69
  let c0_i32_28 : BitVec 32 := 0#32
  let v71 : BitVec 1 := Scalar.cmpi .ne v70 c0_i32_28
  v71

def k0_off5 (d0 : Dev nD) : Fin 1 → Nat :=
  let c2_i32_260 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c2_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  ![v354.toNat]
def k0_off6 (d0 : Dev nD) : Fin 3 → Nat :=
  let c2_i32_260 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c2_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  let c0_i32_272 : BitVec 32 := 0#32
  let c0_i32_273 : BitVec 32 := 0#32
  ![v354.toNat, 0, 0]
def k0_dev19 : Nat :=
  let c0_i32_271 : BitVec 32 := 0#32
  let c2_i32_269 : BitVec 32 := 2#32
  let c1_i32_270 : BitVec 32 := 1#32
  let v355 : BitVec 32 := Scalar.muli c2_i32_269 c1_i32_270
  let v356 : BitVec 32 := Scalar.addi c0_i32_271 v355
  v356.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_29 : BitVec 32 := 3#32
  let v72 : BitVec 1 := Scalar.cmpi .ne v2 c3_i32_29
  let v73 : BitVec 32 := Scalar.extui v72
  let c0_i32_30 : BitVec 32 := 0#32
  let v74 : BitVec 1 := Scalar.cmpi .ne v73 c0_i32_30
  v74

def k0_off7 (d0 : Dev nD) : Fin 1 → Nat :=
  let c3_i32_260 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c3_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  ![v354.toNat]
def k0_off8 (d0 : Dev nD) : Fin 3 → Nat :=
  let c3_i32_260 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c3_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  let c0_i32_272 : BitVec 32 := 0#32
  let c0_i32_273 : BitVec 32 := 0#32
  ![v354.toNat, 0, 0]
def k0_dev20 : Nat :=
  let c0_i32_271 : BitVec 32 := 0#32
  let c3_i32_269 : BitVec 32 := 3#32
  let c1_i32_270 : BitVec 32 := 1#32
  let v355 : BitVec 32 := Scalar.muli c3_i32_269 c1_i32_270
  let v356 : BitVec 32 := Scalar.addi c0_i32_271 v355
  v356.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_31 : BitVec 32 := 4#32
  let v75 : BitVec 1 := Scalar.cmpi .ne v2 c4_i32_31
  let v76 : BitVec 32 := Scalar.extui v75
  let c0_i32_32 : BitVec 32 := 0#32
  let v77 : BitVec 1 := Scalar.cmpi .ne v76 c0_i32_32
  v77

def k0_off9 (d0 : Dev nD) : Fin 1 → Nat :=
  let c4_i32_260 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c4_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  ![v354.toNat]
def k0_off10 (d0 : Dev nD) : Fin 3 → Nat :=
  let c4_i32_260 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c4_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  let c0_i32_272 : BitVec 32 := 0#32
  let c0_i32_273 : BitVec 32 := 0#32
  ![v354.toNat, 0, 0]
def k0_dev21 : Nat :=
  let c0_i32_271 : BitVec 32 := 0#32
  let c4_i32_269 : BitVec 32 := 4#32
  let c1_i32_270 : BitVec 32 := 1#32
  let v355 : BitVec 32 := Scalar.muli c4_i32_269 c1_i32_270
  let v356 : BitVec 32 := Scalar.addi c0_i32_271 v355
  v356.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_33 : BitVec 32 := 5#32
  let v78 : BitVec 1 := Scalar.cmpi .ne v2 c5_i32_33
  let v79 : BitVec 32 := Scalar.extui v78
  let c0_i32_34 : BitVec 32 := 0#32
  let v80 : BitVec 1 := Scalar.cmpi .ne v79 c0_i32_34
  v80

def k0_off11 (d0 : Dev nD) : Fin 1 → Nat :=
  let c5_i32_260 : BitVec 32 := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c5_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  ![v354.toNat]
def k0_off12 (d0 : Dev nD) : Fin 3 → Nat :=
  let c5_i32_260 : BitVec 32 := 5#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c5_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  let c0_i32_272 : BitVec 32 := 0#32
  let c0_i32_273 : BitVec 32 := 0#32
  ![v354.toNat, 0, 0]
def k0_dev22 : Nat :=
  let c0_i32_271 : BitVec 32 := 0#32
  let c5_i32_269 : BitVec 32 := 5#32
  let c1_i32_270 : BitVec 32 := 1#32
  let v355 : BitVec 32 := Scalar.muli c5_i32_269 c1_i32_270
  let v356 : BitVec 32 := Scalar.addi c0_i32_271 v355
  v356.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_35 : BitVec 32 := 6#32
  let v81 : BitVec 1 := Scalar.cmpi .ne v2 c6_i32_35
  let v82 : BitVec 32 := Scalar.extui v81
  let c0_i32_36 : BitVec 32 := 0#32
  let v83 : BitVec 1 := Scalar.cmpi .ne v82 c0_i32_36
  v83

def k0_off13 (d0 : Dev nD) : Fin 1 → Nat :=
  let c6_i32_260 : BitVec 32 := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c6_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  ![v354.toNat]
def k0_off14 (d0 : Dev nD) : Fin 3 → Nat :=
  let c6_i32_260 : BitVec 32 := 6#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c6_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  let c0_i32_272 : BitVec 32 := 0#32
  let c0_i32_273 : BitVec 32 := 0#32
  ![v354.toNat, 0, 0]
def k0_dev23 : Nat :=
  let c0_i32_271 : BitVec 32 := 0#32
  let c6_i32_269 : BitVec 32 := 6#32
  let c1_i32_270 : BitVec 32 := 1#32
  let v355 : BitVec 32 := Scalar.muli c6_i32_269 c1_i32_270
  let v356 : BitVec 32 := Scalar.addi c0_i32_271 v355
  v356.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_37 : BitVec 32 := 7#32
  let v84 : BitVec 1 := Scalar.cmpi .ne v2 c7_i32_37
  let v85 : BitVec 32 := Scalar.extui v84
  let c0_i32_38 : BitVec 32 := 0#32
  let v86 : BitVec 1 := Scalar.cmpi .ne v85 c0_i32_38
  v86

def k0_off15 (d0 : Dev nD) : Fin 1 → Nat :=
  let c7_i32_260 : BitVec 32 := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c7_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  ![v354.toNat]
def k0_off16 (d0 : Dev nD) : Fin 3 → Nat :=
  let c7_i32_260 : BitVec 32 := 7#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c7_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  let c0_i32_272 : BitVec 32 := 0#32
  let c0_i32_273 : BitVec 32 := 0#32
  ![v354.toNat, 0, 0]
def k0_dev24 : Nat :=
  let c0_i32_271 : BitVec 32 := 0#32
  let c7_i32_269 : BitVec 32 := 7#32
  let c1_i32_270 : BitVec 32 := 1#32
  let v355 : BitVec 32 := Scalar.muli c7_i32_269 c1_i32_270
  let v356 : BitVec 32 := Scalar.addi c0_i32_271 v355
  v356.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_39 : BitVec 32 := 8#32
  let v87 : BitVec 1 := Scalar.cmpi .ne v2 c8_i32_39
  let v88 : BitVec 32 := Scalar.extui v87
  let c0_i32_40 : BitVec 32 := 0#32
  let v89 : BitVec 1 := Scalar.cmpi .ne v88 c0_i32_40
  v89

def k0_off17 (d0 : Dev nD) : Fin 1 → Nat :=
  let c8_i32_260 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c8_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  ![v354.toNat]
def k0_off18 (d0 : Dev nD) : Fin 3 → Nat :=
  let c8_i32_260 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c8_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  let c0_i32_272 : BitVec 32 := 0#32
  let c0_i32_273 : BitVec 32 := 0#32
  ![v354.toNat, 0, 0]
def k0_dev25 : Nat :=
  let c0_i32_271 : BitVec 32 := 0#32
  let c8_i32_269 : BitVec 32 := 8#32
  let c1_i32_270 : BitVec 32 := 1#32
  let v355 : BitVec 32 := Scalar.muli c8_i32_269 c1_i32_270
  let v356 : BitVec 32 := Scalar.addi c0_i32_271 v355
  v356.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_41 : BitVec 32 := 9#32
  let v90 : BitVec 1 := Scalar.cmpi .ne v2 c9_i32_41
  let v91 : BitVec 32 := Scalar.extui v90
  let c0_i32_42 : BitVec 32 := 0#32
  let v92 : BitVec 1 := Scalar.cmpi .ne v91 c0_i32_42
  v92

def k0_off19 (d0 : Dev nD) : Fin 1 → Nat :=
  let c9_i32_260 : BitVec 32 := 9#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c9_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  ![v354.toNat]
def k0_off20 (d0 : Dev nD) : Fin 3 → Nat :=
  let c9_i32_260 : BitVec 32 := 9#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c9_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  let c0_i32_272 : BitVec 32 := 0#32
  let c0_i32_273 : BitVec 32 := 0#32
  ![v354.toNat, 0, 0]
def k0_dev26 : Nat :=
  let c0_i32_271 : BitVec 32 := 0#32
  let c9_i32_269 : BitVec 32 := 9#32
  let c1_i32_270 : BitVec 32 := 1#32
  let v355 : BitVec 32 := Scalar.muli c9_i32_269 c1_i32_270
  let v356 : BitVec 32 := Scalar.addi c0_i32_271 v355
  v356.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_43 : BitVec 32 := 10#32
  let v93 : BitVec 1 := Scalar.cmpi .ne v2 c10_i32_43
  let v94 : BitVec 32 := Scalar.extui v93
  let c0_i32_44 : BitVec 32 := 0#32
  let v95 : BitVec 1 := Scalar.cmpi .ne v94 c0_i32_44
  v95

def k0_off21 (d0 : Dev nD) : Fin 1 → Nat :=
  let c10_i32_260 : BitVec 32 := 10#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c10_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  ![v354.toNat]
def k0_off22 (d0 : Dev nD) : Fin 3 → Nat :=
  let c10_i32_260 : BitVec 32 := 10#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c10_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  let c0_i32_272 : BitVec 32 := 0#32
  let c0_i32_273 : BitVec 32 := 0#32
  ![v354.toNat, 0, 0]
def k0_dev27 : Nat :=
  let c0_i32_271 : BitVec 32 := 0#32
  let c10_i32_269 : BitVec 32 := 10#32
  let c1_i32_270 : BitVec 32 := 1#32
  let v355 : BitVec 32 := Scalar.muli c10_i32_269 c1_i32_270
  let v356 : BitVec 32 := Scalar.addi c0_i32_271 v355
  v356.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_45 : BitVec 32 := 11#32
  let v96 : BitVec 1 := Scalar.cmpi .ne v2 c11_i32_45
  let v97 : BitVec 32 := Scalar.extui v96
  let c0_i32_46 : BitVec 32 := 0#32
  let v98 : BitVec 1 := Scalar.cmpi .ne v97 c0_i32_46
  v98

def k0_off23 (d0 : Dev nD) : Fin 1 → Nat :=
  let c11_i32_260 : BitVec 32 := 11#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c11_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  ![v354.toNat]
def k0_off24 (d0 : Dev nD) : Fin 3 → Nat :=
  let c11_i32_260 : BitVec 32 := 11#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c11_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  let c0_i32_272 : BitVec 32 := 0#32
  let c0_i32_273 : BitVec 32 := 0#32
  ![v354.toNat, 0, 0]
def k0_dev28 : Nat :=
  let c0_i32_271 : BitVec 32 := 0#32
  let c11_i32_269 : BitVec 32 := 11#32
  let c1_i32_270 : BitVec 32 := 1#32
  let v355 : BitVec 32 := Scalar.muli c11_i32_269 c1_i32_270
  let v356 : BitVec 32 := Scalar.addi c0_i32_271 v355
  v356.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_47 : BitVec 32 := 12#32
  let v99 : BitVec 1 := Scalar.cmpi .ne v2 c12_i32_47
  let v100 : BitVec 32 := Scalar.extui v99
  let c0_i32_48 : BitVec 32 := 0#32
  let v101 : BitVec 1 := Scalar.cmpi .ne v100 c0_i32_48
  v101

def k0_off25 (d0 : Dev nD) : Fin 1 → Nat :=
  let c12_i32_260 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c12_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  ![v354.toNat]
def k0_off26 (d0 : Dev nD) : Fin 3 → Nat :=
  let c12_i32_260 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c12_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  let c0_i32_272 : BitVec 32 := 0#32
  let c0_i32_273 : BitVec 32 := 0#32
  ![v354.toNat, 0, 0]
def k0_dev29 : Nat :=
  let c0_i32_271 : BitVec 32 := 0#32
  let c12_i32_269 : BitVec 32 := 12#32
  let c1_i32_270 : BitVec 32 := 1#32
  let v355 : BitVec 32 := Scalar.muli c12_i32_269 c1_i32_270
  let v356 : BitVec 32 := Scalar.addi c0_i32_271 v355
  v356.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_49 : BitVec 32 := 13#32
  let v102 : BitVec 1 := Scalar.cmpi .ne v2 c13_i32_49
  let v103 : BitVec 32 := Scalar.extui v102
  let c0_i32_50 : BitVec 32 := 0#32
  let v104 : BitVec 1 := Scalar.cmpi .ne v103 c0_i32_50
  v104

def k0_off27 (d0 : Dev nD) : Fin 1 → Nat :=
  let c13_i32_260 : BitVec 32 := 13#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c13_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  ![v354.toNat]
def k0_off28 (d0 : Dev nD) : Fin 3 → Nat :=
  let c13_i32_260 : BitVec 32 := 13#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c13_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  let c0_i32_272 : BitVec 32 := 0#32
  let c0_i32_273 : BitVec 32 := 0#32
  ![v354.toNat, 0, 0]
def k0_dev30 : Nat :=
  let c0_i32_271 : BitVec 32 := 0#32
  let c13_i32_269 : BitVec 32 := 13#32
  let c1_i32_270 : BitVec 32 := 1#32
  let v355 : BitVec 32 := Scalar.muli c13_i32_269 c1_i32_270
  let v356 : BitVec 32 := Scalar.addi c0_i32_271 v355
  v356.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_51 : BitVec 32 := 14#32
  let v105 : BitVec 1 := Scalar.cmpi .ne v2 c14_i32_51
  let v106 : BitVec 32 := Scalar.extui v105
  let c0_i32_52 : BitVec 32 := 0#32
  let v107 : BitVec 1 := Scalar.cmpi .ne v106 c0_i32_52
  v107

def k0_off29 (d0 : Dev nD) : Fin 1 → Nat :=
  let c14_i32_260 : BitVec 32 := 14#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c14_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  ![v354.toNat]
def k0_off30 (d0 : Dev nD) : Fin 3 → Nat :=
  let c14_i32_260 : BitVec 32 := 14#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c14_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  let c0_i32_272 : BitVec 32 := 0#32
  let c0_i32_273 : BitVec 32 := 0#32
  ![v354.toNat, 0, 0]
def k0_dev31 : Nat :=
  let c0_i32_271 : BitVec 32 := 0#32
  let c14_i32_269 : BitVec 32 := 14#32
  let c1_i32_270 : BitVec 32 := 1#32
  let v355 : BitVec 32 := Scalar.muli c14_i32_269 c1_i32_270
  let v356 : BitVec 32 := Scalar.addi c0_i32_271 v355
  v356.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_53 : BitVec 32 := 15#32
  let v108 : BitVec 1 := Scalar.cmpi .ne v2 c15_i32_53
  let v109 : BitVec 32 := Scalar.extui v108
  let c0_i32_54 : BitVec 32 := 0#32
  let v110 : BitVec 1 := Scalar.cmpi .ne v109 c0_i32_54
  v110

def k0_off31 (d0 : Dev nD) : Fin 1 → Nat :=
  let c15_i32_260 : BitVec 32 := 15#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c15_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  ![v354.toNat]
def k0_off32 (d0 : Dev nD) : Fin 3 → Nat :=
  let c15_i32_260 : BitVec 32 := 15#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v343 : BitVec 32 := Scalar.subi c15_i32_260 v2
  let c1_i32_261 : BitVec 32 := 1#32
  let v344 : BitVec 32 := Scalar.subi v343 c1_i32_261
  let c16_i32_262 : BitVec 32 := 16#32
  let c0_i32_263 : BitVec 32 := 0#32
  let v345 : BitVec 1 := Scalar.cmpi .eq c16_i32_262 c0_i32_263
  let c1_i32_264 : BitVec 32 := 1#32
  let v346 : BitVec 32 := Scalar.select v345 c1_i32_264 c16_i32_262
  let v347 : BitVec 32 := Scalar.remsi v344 v346
  let c0_i32_266 : BitVec 32 := 0#32
  let v349 : BitVec 1 := Scalar.cmpi .slt v347 c0_i32_266
  let c0_i32_267 : BitVec 32 := 0#32
  let v350 : BitVec 1 := Scalar.cmpi .slt v346 c0_i32_267
  let v351 : BitVec 1 := Scalar.xori v349 v350
  let c0_i32_265 : BitVec 32 := 0#32
  let v348 : BitVec 1 := Scalar.cmpi .ne v347 c0_i32_265
  let v352 : BitVec 1 := Scalar.andi v351 v348
  let v353 : BitVec 32 := Scalar.addi v347 v346
  let v354 : BitVec 32 := Scalar.select v352 v353 v347
  let c0_i32_272 : BitVec 32 := 0#32
  let c0_i32_273 : BitVec 32 := 0#32
  ![v354.toNat, 0, 0]
def k0_dev32 : Nat :=
  let c0_i32_271 : BitVec 32 := 0#32
  let c15_i32_269 : BitVec 32 := 15#32
  let c1_i32_270 : BitVec 32 := 1#32
  let v355 : BitVec 32 := Scalar.muli c15_i32_269 c1_i32_270
  let v356 : BitVec 32 := Scalar.addi c0_i32_271 v355
  v356.toNat
def k0_mult1 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v111 : BitVec 32 := Scalar.muli v2 c64_i32
  v111
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v111 : BitVec 32 := Scalar.muli v2 c64_i32
  let v112 : BitVec 32 := v111
  let v113 : Index := Scalar.indexCast v112
  let c0_55 : Index := 0#32
  ![v113.toNat, 0]
abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S_, .f32⟩
  | .hbm, ⟨17, _⟩ => ⟨S1024x1024, .f32⟩
  | .hbm, ⟨18, _⟩ => ⟨S1024x1024, .f32⟩
  | .hbm, ⟨19, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Cells.lean ====
/-
The cells of the direct reduce-scatter, and what each of their rounds moves

Sixteen devices. Device `c` multiplies its columns of `x` with its rows of `w` into a 1024 × 1024 product, of which
block `b` (64 rows) belongs to device `b`. It hands block `b` to device `b` by one transfer, for every `b ≠ c`, into
slot `sq c b` of device `b`'s landing buffer. Before any transfer every device tells every other, on the runtime's
barrier semaphore, that its landing buffer is free.

The semaphores, one round each:

* the barrier cell of `c`: one unit from every other device `d`; the unit of `d` carries the slot of `d` that `c` writes;
* the send cell `b` of `c` (`b ≠ c`): the transfer to `b` pays it, and gives back block `b` of `c`'s product;
* the receive cell `q` of `c`: the transfer of the one device that writes slot `q` pays it, and hands `c` that slot with
  block `c` of the sender's product in it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds beside this kernel's, whose duties are named by the paying device -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Which slot a device writes, and which device writes a slot -/

set_option backward.proofsInPublic true in
/-- The slot of device `b` that device `c` writes: `b - c - 1` modulo 16 (of no meaning for `b = c`). -/
def sq (c b : Dev nD) : Fin 15 := ⟨min ((b.val + 15 - c.val) % 16) 14, by omega⟩
set_option backward.proofsInPublic true in
/-- The device that writes slot `q` of device `b`. -/
def snd (b : Dev nD) (q : Fin 15) : Dev nD := ⟨(b.val + 15 - q.val) % 16, Nat.mod_lt _ (by decide)⟩

theorem snd_sq : ∀ c b : Dev nD, b ≠ c → snd b (sq c b) = c := by decide
theorem sq_snd : ∀ (b : Dev nD) (q : Fin 15), sq (snd b q) b = q := by decide
theorem snd_ne : ∀ (b : Dev nD) (q : Fin 15), b ≠ snd b q := by decide
/-- Distinct devices write distinct slots of `b`. -/
theorem sq_eq_iff : ∀ (b c : Dev nD) (q : Fin 15), b ≠ c → (sq c b = q ↔ c = snd b q) := by decide
/-- The slots of `c` that the other devices write are all its slots. -/
theorem sq_image : ∀ c : Dev nD, (Finset.univ.erase c).image (fun d => sq d c) = Finset.univ := by decide

/-! ## The memrefs and cells -/

abbrev xM : Memref sig .tc .vmem S1024x64 .f32 := Memref.whole cc0_stg0_0
abbrev wM : Memref sig .tc .vmem S64x1024 .f32 := Memref.whole cc0_stg1_0
abbrev oM : Memref sig .tc .vmem S64x1024 .f32 := Memref.whole cc0_stg2_0
abbrev aM : Memref sig .tc .vmem S1024x1024 .bf16 := Memref.whole cc0_scratch0
abbrev lM : Memref sig .tc .vmem S15x64x1024 .bf16 := Memref.whole cc0_scratch1

theorem row_inb (b : Dev nD) (a : Fin 2) : (![64 * b.val, 0] : Fin 2 → Nat) a + S64x1024.size a ≤ S1024x1024.size a := by
  revert a b; decide
theorem slot_inb (q : Fin 15) (a : Fin 3) : (![q.val, 0, 0] : Fin 3 → Nat) a + S1x64x1024.size a ≤ S15x64x1024.size a := by
  revert a q; decide
theorem sendS_inb (b : Dev nD) (a : Fin 1) : (![b.val] : Fin 1 → Nat) a + S1.size a ≤ S16.size a := by
  revert a b; decide
theorem recvS_inb (q : Fin 15) (a : Fin 1) : (![q.val] : Fin 1 → Nat) a + S1.size a ≤ S15.size a := by
  revert a q; decide

/-- Block `b`, 64 rows, of the product buffer. -/
abbrev rowM (b : Dev nD) : Memref sig .tc .vmem S64x1024 .bf16 :=
  aM.slice (Rect.unit (s := S1024x1024) ![64 * b.val, 0] S64x1024.size (row_inb b)) (fun _ => rfl)
/-- The rectangle of slot `q` in the landing buffer, -/
abbrev slotR (q : Fin 15) : Rect S15x64x1024 := Rect.unit (s := S15x64x1024) ![q.val, 0, 0] S1x64x1024.size (slot_inb q)
/-- and the slot, read as 64 rows. -/
abbrev slotM (q : Fin 15) : Memref sig .tc .vmem S64x1024 .bf16 :=
  (lM.slice (slotR q) (fun _ => rfl)).squeeze S64x1024 squeezes_S1x64x1024_S64x1024

/-- The runtime's barrier semaphore (not scoped to the launch), the send semaphores and the receive semaphores. -/
abbrev barS : Sem sig := (SemArray.scalar (sig.barrier 0 rfl) : Sems sig S_).sem
abbrev sendS (b : Dev nD) : DmaSem sig :=
  ((cc0_scratch2.slice (Rect.unit (s := S16) ![b.val] S1.size (sendS_inb b))).squeeze S_ squeezes_S1_S_).sem
abbrev recvS (q : Fin 15) : DmaSem sig :=
  ((cc0_scratch3.slice (Rect.unit (s := S15) ![q.val] S1.size (recvS_inb q))).squeeze S_ squeezes_S1_S_).sem

theorem sendS_val : ∀ b : Dev nD, (sendS b).val = 3 + b.val := by decide
theorem recvS_val : ∀ q : Fin 15, (recvS q).val = 19 + q.val := by decide

abbrev barCell (c : Dev nD) : GSem nD τ sig := ((c : Thread nD τ), .reg barS)
abbrev sendCell (c b : Dev nD) : GSem nD τ sig := ((c : Thread nD τ), .dma (sendS b))
abbrev recvCell (c : Dev nD) (q : Fin 15) : GSem nD τ sig := ((c : Thread nD τ), .dma (recvS q))

/-- The kernel's own (scoped) semaphores, as the launch indexes them: the send and the receive semaphores; -/
abbrev osem : Dev nD ⊕ Fin 15 → SemLoc sig := Sum.elim (fun b => .dma (sendS b)) (fun q => .dma (recvS q))
/-- all of its semaphores: those and the barrier. -/
abbrev csem : (Dev nD ⊕ Fin 15) ⊕ Unit → SemLoc sig := Sum.elim osem (fun _ => .reg barS)
abbrev KI : Type := (Dev nD ⊕ Fin 15) ⊕ Unit
abbrev kcell (ck : Dev nD × KI) : GSem nD τ sig := ((ck.1 : Thread nD τ), csem ck.2)

/-- The credit of one transferred block. -/
abbrev N : ℕ := (slotM 0).view.dmaCredit
theorem N_pos : 0 < N := View.dmaCredit_pos _ (by decide)

/-! ## What the cells carry -/

/-- The product buffer's block `b` on device `c`, at the contents `f`. -/
def rowPts (c b : Dev nD) (f : (cc0_scratch0 : Ref sig .tc).ty.Contents (Elt F)) : sProp 𝕄 :=
  (rowM b).view.loc (c : Thread nD τ) ↦[(rowM b).view.set]{fullShare} f
/-- Slot `q` of device `c`'s landing buffer, at the contents `f`. -/
def slotPts (c : Dev nD) (q : Fin 15) (f : (cc0_scratch1 : Ref sig .tc).ty.Contents (Elt F)) : sProp 𝕄 :=
  (slotM q).view.loc (c : Thread nD τ) ↦[(slotM q).view.set]{fullShare} f
/-- Slot `q` of device `c`'s landing buffer, at any contents. -/
def slotAny (c : Dev nD) (q : Fin 15) : sProp 𝕄 := iprop(∃ f, slotPts (F := F) c q f)

variable (A : Dev nD → (cc0_scratch0 : Ref sig .tc).ty.Contents (Elt F))

/-- Block `b` of device `c`'s product, as 64 rows. -/
abbrev rowsOf (c b : Dev nD) : Vec F S64x1024 .bf16 := (rowM b).view.read (Elt F) (A c)

/-- Slot `q` of device `c`, holding block `c` of the product of the device that writes the slot. -/
def landed (c : Dev nD) (q : Fin 15) : sProp 𝕄 :=
  iprop(∃ f, ⌜(slotM q).view.read (Elt F) f = rowsOf A (snd c q) c⌝ ∗ slotPts (F := F) c q f)

omit [FloatOps F] in
instance rowPts_storable (c b : Dev nD) (f) : BI.Storable (upEmb : UEmb _ 𝕄) (rowPts (F := F) c b f) := by unfold rowPts; infer_instance
omit [FloatOps F] in
instance slotPts_storable (c : Dev nD) (q) (f) : BI.Storable (upEmb : UEmb _ 𝕄) (slotPts (F := F) c q f) := by unfold slotPts; infer_instance
omit [FloatOps F] in
instance slotAny_storable (c : Dev nD) (q) : BI.Storable (upEmb : UEmb _ 𝕄) (slotAny (F := F) c q) := by unfold slotAny; infer_instance
omit [FloatOps F] in
instance landed_storable (c : Dev nD) (q) : BI.Storable (upEmb : UEmb _ 𝕄) (landed A c q) := by unfold landed; infer_instance

/-! ## The schedule -/

/-- The block a send semaphore stands for and the slot a receive semaphore stands for, by its index. -/
abbrev rowIx (s : DmaSem sig) : Dev nD := ⟨(s.val + 13) % 16, Nat.mod_lt _ (by decide)⟩
abbrev slotIx (s : DmaSem sig) : Fin 15 := ⟨(s.val + 11) % 15, Nat.mod_lt _ (by decide)⟩

theorem rowIx_sendS : ∀ b : Dev nD, rowIx (sendS b) = b := by decide
theorem slotIx_recvS : ∀ q : Fin 15, slotIx (recvS q) = q := by decide
theorem sendS_lt : ∀ b : Dev nD, (sendS b).val < 19 := by decide
theorem recvS_not_lt : ∀ q : Fin 15, ¬ (recvS q).val < 19 := by decide

/-- Who pays a semaphore of device `c` in its one round. -/
def payers (c : Dev nD) : SemLoc sig → Finset (Dev nD)
  | .reg _ => Finset.univ.erase c
  | .dma s => if s.val < 19 then (if rowIx s = c then ∅ else {c}) else {snd c (slotIx s)}

/-- How much each payer pays. -/
def paid : SemLoc sig → ℕ
  | .reg _ => 1
  | .dma _ => N

/-- What payer `d` hands over. -/
def handed (c : Dev nD) (d : Dev nD) : SemLoc sig → sProp 𝕄
  | .reg _ => slotAny (F := F) d (sq c d)
  | .dma s => if s.val < 19 then rowPts c (rowIx s) (A c) else landed A c (slotIx s)

omit [FloatOps F] in
instance handed_storable (c d : Dev nD) (sm : SemLoc sig) : BI.Storable (upEmb : UEmb _ 𝕄) (handed A c d sm) := by
  match sm with
  | .reg _ => show BI.Storable _ (slotAny (F := F) d (sq c d)); infer_instance
  | .dma s =>
    show BI.Storable _ (if s.val < 19 then rowPts c (rowIx s) (A c) else landed A c (slotIx s))
    by_cases h : s.val < 19
    · rw [if_pos h]; infer_instance
    · rw [if_neg h]; infer_instance

/-- One round, round 0, on each TensorCore's semaphores: its payers, what they pay and what they hand over. -/
def Rd : Rounds.Schedule (GSem nD τ sig) (Dev nD) 𝕄 where
  duties g r := if r = 0 ∧ g.1.2 = .tc then payers g.1.1 g.2 else ∅
  unitless _ := False
  amount g _ _ := paid g.2
  payload g _ d := handed A g.1.1 d g.2
  amount_pos g _ _ _ := by
    show 0 < paid g.2
    cases g.2
    · exact Nat.one_pos
    · exact N_pos

omit [FloatOps F] in
instance Rd_payload_storable (g : GSem nD τ sig) (r : ℕ) (d : Dev nD) : BI.Storable (upEmb : UEmb _ 𝕄) ((Rd A).payload g r d) :=
  handed_storable A g.1.1 d g.2

section Sched

variable (c b : Dev nD) (q : Fin 15)

omit [FloatOps F] in
theorem duties_zero (sm : SemLoc sig) : (Rd A).duties ((c : Thread nD τ), sm) 0 = payers c sm := by
  show (if (0 : ℕ) = 0 ∧ (c : Thread nD τ).2 = .tc then payers c sm else ∅) = _
  exact if_pos ⟨rfl, rfl⟩
omit [FloatOps F] in
theorem duties_later (g : GSem nD τ sig) : ∀ r, 1 ≤ r → (Rd A).duties g r = ∅ := fun r hr => if_neg fun h => by omega

omit [FloatOps F] in
theorem duties_bar : (Rd A).duties (barCell c) 0 = Finset.univ.erase c := duties_zero A c _
omit [FloatOps F] in
theorem duties_send (h : b ≠ c) : (Rd A).duties (sendCell c b) 0 = {c} := by
  rw [duties_zero, payers, if_pos (sendS_lt b), rowIx_sendS, if_neg h]
omit [FloatOps F] in
/-- The send cell of a device's own block has no payer: the block is never sent. -/
theorem duties_send_self : (Rd A).duties (sendCell c c) 0 = ∅ := by
  rw [duties_zero, payers, if_pos (sendS_lt c), rowIx_sendS, if_pos rfl]
omit [FloatOps F] in
theorem duties_recv : (Rd A).duties (recvCell c q) 0 = {snd c q} := by
  rw [duties_zero, payers, if_neg (recvS_not_lt q), slotIx_recvS]

omit [FloatOps F] in
theorem expect_bar : (Rd A).expect (barCell c) 0 = 15 := by
  unfold Schedule.expect Schedule.amountOf
  rw [duties_bar]
  show ∑ _d ∈ Finset.univ.erase c, 1 = 15
  rw [Finset.sum_const, Finset.card_erase_of_mem (Finset.mem_univ c)]; rfl
omit [FloatOps F] in
theorem expect_send (h : b ≠ c) : (Rd A).expect (sendCell c b) 0 = N := by
  unfold Schedule.expect Schedule.amountOf; rw [duties_send A c b h, Finset.sum_singleton]; rfl
omit [FloatOps F] in
theorem expect_recv : (Rd A).expect (recvCell c q) 0 = N := by
  unfold Schedule.expect Schedule.amountOf; rw [duties_recv, Finset.sum_singleton]; rfl

omit [FloatOps F] in
theorem payload_bar (d : Dev nD) : (Rd A).payload (barCell c) 0 d = slotAny d (sq c d) := rfl
omit [FloatOps F] in
theorem payload_send (d : Dev nD) : (Rd A).payload (sendCell c b) 0 d = rowPts c b (A c) := by
  show handed A c d (.dma (sendS b)) = _
  rw [handed, if_pos (sendS_lt b), rowIx_sendS]
omit [FloatOps F] in
theorem payload_recv (d : Dev nD) : (Rd A).payload (recvCell c q) 0 d = landed A c q := by
  show handed A c d (.dma (recvS q)) = _
  rw [handed, if_neg (recvS_not_lt q), slotIx_recvS]

omit [FloatOps F] in
/-- The barrier cell's round in full: from every other device, the slot of that device that `c` writes. -/
theorem rest_bar : bigSep ((Rd A).duties (barCell c) 0 \ ∅) (fun d => (Rd A).payload (barCell c) 0 d)
    = bigSep (Finset.univ.erase c) fun d => slotAny (F := F) d (sq c d) := by
  rw [Finset.sdiff_empty, duties_bar]; rfl
omit [FloatOps F] in
theorem rest_send (h : b ≠ c) : bigSep ((Rd A).duties (sendCell c b) 0 \ ∅) (fun d => (Rd A).payload (sendCell c b) 0 d) = rowPts c b (A c) := by
  rw [Finset.sdiff_empty, duties_send A c b h, bigSep_singleton, payload_send]
omit [FloatOps F] in
theorem rest_recv : bigSep ((Rd A).duties (recvCell c q) 0 \ ∅) (fun d => (Rd A).payload (recvCell c q) 0 d) = landed A c q := by
  rw [Finset.sdiff_empty, duties_recv, bigSep_singleton, payload_recv]

end Sched

/-! ## What each core owes at launch; the levels -/

/-- The sum of `T b` over the devices `b` other than `c` from number `k` on. -/
def owedFrom (c : Dev nD) (T : Dev nD → CellTallies nD τ sig Unit) (k : ℕ) : CellTallies nD τ sig Unit :=
  ∑ b : Dev nD, if b ≠ c ∧ k ≤ b.val then T b else 0

/-- One transfer's credit to device `b`'s slot; one unit to its barrier. -/
abbrev owedRecv (c b : Dev nD) : CellTallies nD τ sig Unit := tallyAt (recvCell b (sq c b)) () N
abbrev owedBar (b : Dev nD) : CellTallies nD τ sig Unit := tallyAt (barCell b) () 1

/-- Device `c` owes every other device one transfer and one barrier unit. -/
def O₀ (c : Dev nD) : CellTallies nD τ sig Unit := owedFrom c (owedRecv c) 0 + owedFrom c owedBar 0

theorem owedFrom_step (c b : Dev nD) (T : Dev nD → CellTallies nD τ sig Unit) (h : b ≠ c) :
    owedFrom c T b.val = owedFrom c T (b.val + 1) + T b := by
  unfold owedFrom
  rw [← Finset.add_sum_erase _ _ (Finset.mem_univ b), ← Finset.add_sum_erase Finset.univ _ (Finset.mem_univ b),
    if_pos ⟨h, le_refl _⟩, if_neg (fun h' => absurd h'.2 (by omega)), zero_add, add_comm]
  refine congrArg (· + T b) (Finset.sum_congr rfl fun d hd => ?_)
  have hne : d.val ≠ b.val := fun h' => Finset.ne_of_mem_erase hd (Fin.ext h')
  exact if_congr (and_congr_right fun _ => by omega) rfl rfl

theorem owedFrom_skip (c : Dev nD) (T : Dev nD → CellTallies nD τ sig Unit) : owedFrom c T c.val = owedFrom c T (c.val + 1) := by
  unfold owedFrom
  refine Finset.sum_congr rfl fun d _ => if_congr (and_congr_right fun h => ?_) rfl rfl
  have hne : d.val ≠ c.val := fun h' => h (Fin.ext h')
  omega

theorem owedFrom_end (c : Dev nD) (T : Dev nD → CellTallies nD τ sig Unit) : owedFrom c T 16 = 0 :=
  Finset.sum_eq_zero fun d _ => if_neg fun h => absurd h.2 (Nat.not_le.mpr d.isLt)

/-- What `c` owes a cell, summand by summand. -/
theorem owedFrom_apply (c : Dev nD) (T : Dev nD → CellTallies nD τ sig Unit) (k : ℕ) (g : GSem nD τ sig) (u : Unit) :
    owedFrom c T k g u = ∑ b : Dev nD, if b ≠ c ∧ k ≤ b.val then T b g u else 0 := by
  unfold owedFrom
  rw [Finset.sum_apply, Finsupp.finset_sum_apply]
  refine Finset.sum_congr rfl fun b _ => ?_
  split <;> rfl

theorem owedFrom_pos {c : Dev nD} {T : Dev nD → CellTallies nD τ sig Unit} {k : ℕ} {g : GSem nD τ sig} {u : Unit}
    (h : 0 < owedFrom c T k g u) : ∃ b, b ≠ c ∧ 0 < T b g u := by
  rw [owedFrom_apply] at h
  obtain ⟨b, _, hb⟩ := Finset.exists_ne_zero_of_sum_ne_zero (Nat.pos_iff_ne_zero.mp h)
  by_cases hc : b ≠ c ∧ k ≤ b.val
  · rw [if_pos hc] at hb; exact ⟨b, hc.1, Nat.pos_iff_ne_zero.mpr hb⟩
  · exact absurd (if_neg hc) hb

def L (g : GSem nD τ sig) : Finset Unit := if g.1.2 = .tc then {()} else ∅
/-- Barrier cells at 1, receive cells at 2, everything else (staging, send) at 0. -/
def lv (g : GSem nD τ sig) (_ : Unit) : ℕ :=
  match g.2 with
  | .reg _ => 1
  | .dma s => if s.val < 19 then 0 else 2

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {u : Unit} {n : ℕ} (h : 0 < (tallyAt g' () n : CellTallies nD τ sig Unit) g u) : g = g' := by
  rw [tallyAt_apply] at h
  by_contra hn
  rw [if_neg (fun h' => hn h'.1)] at h
  exact Nat.lt_irrefl 0 h

theorem owedRecv_pos {c : Dev nD} {k : ℕ} {g : GSem nD τ sig} {u : Unit} (h : 0 < owedFrom c (owedRecv c) k g u) : ∃ b q, g = recvCell b q := by
  obtain ⟨b, _, hb⟩ := owedFrom_pos h
  exact ⟨b, _, tally_pos hb⟩

theorem O₀_pos {c : Dev nD} {g : GSem nD τ sig} {u : Unit} (h : 0 < O₀ c g u) : (∃ b q, g = recvCell b q) ∨ ∃ b, g = barCell b := by
  unfold O₀ at h
  rw [Pi.add_apply, Finsupp.add_apply] at h
  rcases Nat.eq_zero_or_pos (owedFrom c (owedRecv c) 0 g u) with h0 | h0
  · rw [h0, zero_add] at h
    obtain ⟨b, _, hb⟩ := owedFrom_pos h
    exact Or.inr ⟨b, tally_pos hb⟩
  · exact Or.inl (owedRecv_pos h0)

theorem lv_recv (b : Dev nD) (q : Fin 15) (u : Unit) : lv (recvCell b q) u = 2 := if_neg (recvS_not_lt q)

omit [FloatOps F] in
/-- A staging semaphore lies below all that a device owes. -/
theorem mayWait_stage (c : Dev nD) (s : DmaSem sig) (hs : s.val < 19) (O : CellTallies nD τ sig Unit) (hO : O = O₀ c ∨ O = 0) :
    (levAts L lv : sProp 𝕄) ⊢ MayWait (c : Thread nD τ) (.dma s) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨b, q, rfl⟩ | ⟨b, rfl⟩ <;> exact Finset.mem_singleton_self _)
      (fun p hp => by rw [Finset.mem_singleton.mp hp]; exact le_of_eq (if_pos hs))
      (fun g u hg => by
        rcases O₀_pos hg with ⟨b, q, rfl⟩ | ⟨b, rfl⟩
        · rw [lv_recv]; decide
        · exact Nat.one_pos)
  · rw [MayWait_zero]; iintro -; iempintro

omit [FloatOps F] in
/-- At its barrier wait a device owes transfers only: receive cells, above its barrier cell. -/
theorem mayWait_bar (c : Dev nD) (k : ℕ) :
    (levAts L lv : sProp 𝕄) ⊢ MayWait (c : Thread nD τ) (.reg barS) () (owedFrom c (owedRecv c) k) :=
  MayOwe.of_cut (L := L) (lev := lv) 1 (fun p hp => by rw [Finset.mem_singleton.mp hp, L_tc]; exact Finset.mem_singleton_self _)
    (fun g u hg => by obtain ⟨b, q, rfl⟩ := owedRecv_pos hg; exact Finset.mem_singleton_self _)
    (fun p hp => by rw [Finset.mem_singleton.mp hp]; exact le_refl 1)
    (fun g u hg => by obtain ⟨b, q, rfl⟩ := owedRecv_pos hg; rw [lv_recv]; decide)

end Cert.Scatter

end
-- ==== Proof.Steps.lean ====
/-
One step of each loop

The kernel's loops over the devices and over the slots are printed unrolled. Each loop goes by a state `… k`, "the
entries below `k` are done": one lemma says what one step does to the state, whichever entry it is.
-/
module

public import proofs.«01_k».proof.Proof.Cells

@[expose] public section

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option maxRecDepth 4096

variable {F : FTy → Type} [FloatOps F]

local notation "𝕄" => MT nD τ sig Unit (Elt F) ℕ UU ℕ

/-! ## A family of resources of which the entries below `k` have been exchanged -/

section Stage

variable {M : Type} [URA M] {n : ℕ} (p : Fin n → Prop) [DecidablePred p] (X Y : Fin n → sProp M)

/-- The entry `i` of the family when those below `k` are done: nothing where `p` fails, else `Y i` below `k`, `X i` from `k` on. -/
def entry (k : ℕ) (i : Fin n) : sProp M := if p i then (if i.val < k then Y i else X i) else iprop(emp)
/-- The family with the entries below `k` done. -/
def stage (k : ℕ) : sProp M := bigSep Finset.univ (entry p X Y k)

theorem entry_todo {k : ℕ} {i : Fin n} (h : p i) (hk : k ≤ i.val) : entry p X Y k i = X i := by
  rw [entry, if_pos h, if_neg (Nat.not_lt.mpr hk)]
theorem entry_done {k : ℕ} {i : Fin n} (h : p i) (hk : i.val < k) : entry p X Y k i = Y i := by
  rw [entry, if_pos h, if_pos hk]
theorem entry_succ {i j : Fin n} (h : j ≠ i) : entry p X Y (i.val + 1) j = entry p X Y i.val j := by
  have hne : j.val ≠ i.val := fun h' => h (Fin.ext h')
  unfold entry
  exact if_congr Iff.rfl (if_congr (by omega) rfl rfl) rfl

/-- One entry set apart from the others. -/
theorem stage_split (k : ℕ) (i : Fin n) :
    stage p X Y k = iprop(entry p X Y k i ∗ bigSep (Finset.univ.erase i) (entry p X Y k)) := bigSep_univ_split i

/-- At the step of entry `i`, its `X` is there to take, and putting its `Y` back makes the next state. -/
theorem stage_step (i : Fin n) (h : p i) : stage p X Y i.val ⊢ iprop(X i ∗ (Y i -∗ stage p X Y (i.val + 1))) := by
  rw [stage_split p X Y i.val i, stage_split p X Y (i.val + 1) i, entry_todo p X Y h (le_refl _),
    entry_done p X Y h (Nat.lt_succ_self _),
    bigSep_congr (s := Finset.univ.erase i) fun j hj => entry_succ p X Y (Finset.ne_of_mem_erase hj)]
  iintro ⟨HX, HR⟩
  isplitl [HX]; · iexact HX
  iintro HY
  isplitl [HY]; · iexact HY
  iexact HR

/-- An entry where `p` fails is passed over. -/
theorem stage_skip (i : Fin n) (h : ¬ p i) : stage p X Y i.val = stage p X Y (i.val + 1) := by
  unfold stage
  refine bigSep_congr fun j _ => ?_
  by_cases hj : j = i
  · subst hj; rw [entry, entry, if_neg h, if_neg h]
  · exact (entry_succ p X Y hj).symm

/-- A done entry can be borrowed. -/
theorem stage_look {k : ℕ} (i : Fin n) (h : p i) (hk : i.val < k) : stage p X Y k ⊢ iprop(Y i ∗ (Y i -∗ stage p X Y k)) := by
  rw [stage_split p X Y k i, entry_done p X Y h hk]
  iintro ⟨HY, HR⟩
  isplitl [HY]; · iexact HY
  iintro HY
  isplitl [HY]; · iexact HY
  iexact HR

/-- Before the first step every entry where `p` holds is `X`; -/
theorem stage_zero : stage p X Y 0 = bigSep (Finset.univ.filter p) X := by
  unfold stage
  rw [bigSep_filter]
  exact bigSep_congr fun i _ => by unfold entry; exact if_congr Iff.rfl (if_neg (Nat.not_lt_zero _)) rfl
/-- after the last every one is `Y`. -/
theorem stage_full : stage p X Y n = bigSep (Finset.univ.filter p) Y := by
  unfold stage
  rw [bigSep_filter]
  exact bigSep_congr fun i _ => by unfold entry; exact if_congr Iff.rfl (if_pos i.isLt) rfl

end Stage

/-! ## The persistent surroundings: every cell's invariant, that every cell has reached round 0, the levels -/

variable (A : Dev nD → (cc0_scratch0 : Ref sig .tc).ty.Contents (Elt F)) (K : Dev nD × KI → ℕ)

def records : sProp 𝕄 :=
  iprop((bigSep Finset.univ fun ck : Dev nD × KI => cellInv ER (Rd A) (K ck) (kcell ck))
    ∗ bigSep Finset.univ fun ck : Dev nD × KI => reached ER (kcell ck) 0)

omit [FloatOps F] in
instance records_persistent : BI.Persistent (records A K) := by unfold records; infer_instance

def env : sProp 𝕄 := iprop(records A K ∗ levAts L lv)

omit [FloatOps F] in
instance env_persistent : BI.Persistent (env A K) := by unfold env; infer_instance

abbrev kBar (c : Dev nD) : Dev nD × KI := (c, .inr ())
abbrev kSend (c b : Dev nD) : Dev nD × KI := (c, .inl (.inl b))
abbrev kRecv (c : Dev nD) (q : Fin 15) : Dev nD × KI := (c, .inl (.inr q))

omit [FloatOps F] in
theorem env_inv (ck : Dev nD × KI) : env A K ⊢ cellInv ER (Rd A) (K ck) (kcell ck) := by
  unfold env records
  have h : (bigSep Finset.univ fun ck : Dev nD × KI => (cellInv ER (Rd A) (K ck) (kcell ck) : sProp 𝕄)) ⊢ cellInv ER (Rd A) (K ck) (kcell ck) :=
    bigSep_elim (Finset.mem_univ ck)
  iintro ⟨⟨HI, -⟩, -⟩
  iapply h; iexact HI
omit [FloatOps F] in
theorem env_reached (ck : Dev nD × KI) : env A K ⊢ reached ER (kcell ck) 0 := by
  unfold env records
  have h : (bigSep Finset.univ fun ck : Dev nD × KI => (reached ER (kcell ck) 0 : sProp 𝕄)) ⊢ reached ER (kcell ck) 0 :=
    bigSep_elim (Finset.mem_univ ck)
  iintro ⟨⟨-, HR⟩, -⟩
  iapply h; iexact HR
omit [FloatOps F] in
theorem env_mayWait (c : Dev nD) (k : ℕ) : env A K ⊢ MayWait (c : Thread nD τ) (.reg barS) () (owedFrom c (owedRecv c) k) := by
  unfold env
  iintro ⟨-, H⟩
  iapply (mayWait_bar c k); iexact H

/-! ## The loops' states -/

abbrev 𝒱₀ : Variants := Variants.none

/-- A program of device `c` under its postcondition; -/
abbrev WP₀ (c : Dev nD) {α : Type} (e : Prog (TpuEff nD τ sig (Elt F) Λ₀ .tc) α) (Q : α → sProp 𝕄) : sProp 𝕄 :=
  wp frame (wpE (defs₀ (F := F)) 𝒱₀ (c : Thread nD τ) none) Set.univ e Q
/-- the same, not to be unfolded. -/
@[irreducible] noncomputable def WP (c : Dev nD) {α : Type} (e : Prog (TpuEff nD τ sig (Elt F) Λ₀ .tc) α) (Q : α → sProp 𝕄) : sProp 𝕄 := WP₀ c e Q

/-- Device `c` owes `O`. -/
def owe (c : Dev nD) (O : CellTallies nD τ sig Unit) : sProp 𝕄 := iprop(∃ W, owes (c : Thread nD τ) O W)

/-- Of the barrier signals those to the devices below `k` are given: the rest is owed still, with the tokens to pay it
    and the slots it hands over; and all transfers are owed. -/
def sigSt (c : Dev nD) (k : ℕ) : sProp 𝕄 :=
  iprop(owe c (owedFrom c (owedRecv c) 0 + owedFrom c owedBar k)
    ∗ stage (· ≠ c) (fun b => iprop(dutyTok ER (barCell b) 0 c ∗ slotAny (F := F) c (sq b c))) (fun _ => iprop(emp)) k)

/-- Of the transfers those to the devices below `k` are under way: for the rest the block to send, the tokens of the two
    payments and the slot to land in; for those under way the credit of the send cell. -/
def sendSt (c : Dev nD) (k : ℕ) : sProp 𝕄 :=
  iprop(owe c (owedFrom c (owedRecv c) k)
    ∗ stage (· ≠ c) (fun b => iprop(rowPts c b (A c) ∗ dutyTok ER (sendCell c b) 0 c ∗ dutyTok ER (recvCell b (sq c b)) 0 c ∗ slotAny (F := F) b (sq c b)))
        (fun b => cred (tallyAt (sendCell c b) () N)) k)

/-- The slots below `k` have landed, and their cells are closed at zero. -/
def recvSt (c : Dev nD) (k : ℕ) : sProp 𝕄 :=
  iprop(owe (F := F) c 0
    ∗ stage (fun _ => True) (fun q => iprop(cred (tallyAt (recvCell c q) () N) ∗ atPos ER (recvCell c q) 0 ∅ 0))
        (fun q => iprop(landed A c q ∗ semVal (recvCell c q) 0)) k)

/-- The blocks sent to the devices below `k` are back, and their send cells are closed at zero. -/
def backSt (c : Dev nD) (k : ℕ) : sProp 𝕄 :=
  iprop(owe (F := F) c 0
    ∗ stage (· ≠ c) (fun b => iprop(cred (tallyAt (sendCell c b) () N) ∗ atPos ER (sendCell c b) 0 ∅ 0))
        (fun b => iprop(rowPts c b (A c) ∗ semVal (sendCell c b) 0)) k)

/-! ## The words the kernel computes -/

/-- The kernel's test of its place on the ring against the word `w`. -/
def condOf (v w : BitVec 32) : BitVec 1 := Scalar.cmpi .ne (Scalar.extui (Scalar.cmpi .ne v w)) 0#32
/-- The kernel's place on the ring. -/
abbrev place (c : Dev nD) : BitVec 32 := Scalar.remsi (Scalar.divsi (Dev.word c) 1#32) 16#32
/-- The slot at the device `w` for the device at place `v`: `(w - v - 1) mod 16`, the remainder made non-negative. -/
def slotWord (w v : BitVec 32) : BitVec 32 :=
  let k : BitVec 32 := Scalar.select (Scalar.cmpi .eq 16#32 0#32) 1#32 16#32
  let x : BitVec 32 := Scalar.remsi (Scalar.subi (Scalar.subi w v) 1#32) k
  Scalar.select (Scalar.andi (Scalar.xori (Scalar.cmpi .slt x 0#32) (Scalar.cmpi .slt k 0#32)) (Scalar.cmpi .ne x 0#32)) (Scalar.addi x k) x

abbrev wordOf (b : Dev nD) : BitVec 32 := BitVec.ofNat 32 b.val

theorem condOf_iff : ∀ c b : Dev nD, condOf (place c) (wordOf b) = 1#1 ↔ b ≠ c := by decide
theorem slotWord_eq : ∀ c b : Dev nD, b ≠ c → (slotWord (wordOf b) (place c)).toNat = (sq c b).val := by decide
theorem own_off : ∀ c : Dev nD, k0_off33 c = ![64 * c.val, 0] := by decide

/-- A slot, or a semaphore, named by an offset equal to its own. -/
theorem slotM_of_off {off : Fin 3 → ℕ} {q : Fin 15} (h : off = ![q.val, 0, 0]) (inb : ∀ a, off a + S1x64x1024.size a ≤ S15x64x1024.size a) :
    (lM.slice (Rect.unit (s := S15x64x1024) off S1x64x1024.size inb) (fun _ => rfl)).squeeze S64x1024 squeezes_S1x64x1024_S64x1024 = slotM q := by
  subst h; rfl
theorem recvS_of_off {off : Fin 1 → ℕ} {q : Fin 15} (h : off = ![q.val]) (inb : ∀ a, off a + S1.size a ≤ S15.size a) :
    ((cc0_scratch3.slice (Rect.unit (s := S15) off S1.size inb)).squeeze S_ squeezes_S1_S_).sem = recvS q := by
  subst h; rfl

/-! ## The steps -/

section Step

variable {A K}
variable (c b : Dev nD) {α : Type}

/-- The conditional signal to device `b`, given to every `b` but `c` itself. -/
theorem step_signal {Q : α → sProp 𝕄} {dev : condOf (place c) (wordOf b) = 1#1 → Dev nD} (hd : ∀ h, dev h = b)
    {e : Prog (TpuEff nD τ sig (Elt F) Λ₀ .tc) α} :
    iprop(env A K ∗ sigSt (F := F) c b.val)
      ⊢ iprop((sigSt (F := F) c (b.val + 1) -∗ WP c e Q)
          -∗ WP c (if h : condOf (place c) (wordOf b) = 1#1 then (do semSignalWord (dev h : Dev nD) barS 1#32; e) else e) Q) := by
  unfold WP
  by_cases h : condOf (place c) (wordOf b) = 1#1
  · have hb := (condOf_iff c b).mp h
    rw [dif_pos h, hd h]
    simp only [semSignalWord, Prog.lift, Prog.bind_op, Prog.bind_ret, Prog.pure_eq_ret]
    unfold sigSt owe
    iintro ⟨#HE, ⟨%W, HO⟩, Hst⟩ Hk
    ihave Hs := (stage_step (· ≠ c) _ _ b hb) $$ Hst
    icases Hs with ⟨⟨Htok, Hslot⟩, Hback⟩
    ihave HO := (Entails.of_eq (congrArg (fun O => (owes (c : Thread nD τ) O W : sProp 𝕄))
      (show owedFrom c (owedRecv c) 0 + owedFrom c owedBar b.val
          = (owedFrom c (owedRecv c) 0 + owedFrom c owedBar (b.val + 1)) + tallyAt (barCell b) () 1 by
        rw [owedFrom_step c b _ hb, add_assoc]))) $$ HO
    iapply (Rounds.wp_signal 𝒱₀ ER (Rd A) (c : Thread nD τ) none (dst := (b : Thread nD τ)) (κ := K (kBar b))
        (d := c) (by rw [duties_bar]; exact Finset.mem_erase.mpr ⟨hb.symm, Finset.mem_univ _⟩) ((show (Rd A).amount (barCell b) 0 c = 1 from rfl).trans (by decide)) () _ rfl)
      $$ [HO Htok Hslot]
    · isplitr; · iapply (env_inv A K (kBar b)); iexact HE
      isplitl [HO]; · iexact HO
      isplitl [Htok]; · iexact Htok
      isplitl [Hslot]; · rw [payload_bar]; iexact Hslot
      iapply (env_reached A K (kBar b)); iexact HE
    iintro HO
    iapply Hk
    isplitl [HO]; · iexists W; iexact HO
    iapply Hback; iempintro
  · have hb : ¬ b ≠ c := fun h' => h ((condOf_iff c b).mpr h')
    rw [dif_neg h]
    unfold sigSt
    iintro ⟨-, HO, Hst⟩ Hk
    iapply Hk
    have hbc : b = c := not_ne_iff.mp hb
    rw [← stage_skip (· ≠ c) _ _ b hb, hbc, ← owedFrom_skip]
    isplitl [HO]; · iexact HO
    iexact Hst

/-- The transfer to device `b`: one unconditional step, whatever terms the program names its operands by. -/
theorem wp_send_block {Q : α → sProp 𝕄} (hb : b ≠ c) {d : Dev nD} (hd : d = b)
    {src : Memref sig .tc .vmem S64x1024 .bf16} (hsrc : src = rowM b) {sS : DmaSem sig} (hsS : sS = sendS b)
    {dst : Memref sig .tc .vmem S64x1024 .bf16} (hdst : dst = slotM (sq c b)) {rS : DmaSem sig} (hrS : rS = recvS (sq c b))
    {hsc : (dst : Memref sig (Dev.tc d : Thread nD τ).2.kind .vmem S64x1024 .bf16).view.ref.isScScratch = false}
    {h₁ : src.view.WordExact} {h₂ : dst.view.WordExact}
    {h₃ : DmaTarget.Typed .vmem (.dma rS) (.remote (Dev.tc d : Thread nD τ) dst (.dma sS) hsc)}
    {k : PUnit → Prog (TpuEff nD τ sig (Elt F) Λ₀ .tc) α} (fd : (cc0_scratch1 : Ref sig .tc).ty.Contents (Elt F))
    (O : CellTallies nD τ sig Unit) (W : Waits sig Unit) :
    iprop(env A K ∗ rowPts c b (A c) ∗ slotPts b (sq c b) fd ∗ owes (c : Thread nD τ) (O + owedRecv c b) W
        ∗ dutyTok ER (sendCell c b) 0 c ∗ dutyTok ER (recvCell b (sq c b)) 0 c)
      ⊢ iprop(((cred (tallyAt (sendCell c b) () N) ∗ owes (c : Thread nD τ) O W) -∗ WP₀ c (k ⟨⟩) Q)
          -∗ WP₀ c (.op (.enqueueDma src (.remote (Dev.tc d : Thread nD τ) dst (.dma sS) hsc) (.dma rS) h₁ h₂ h₃) k) Q) := by
  subst hd hsrc hsS hdst hrS
  unfold rowPts slotPts
  iintro ⟨#HE, Hrow, Hslot, HO, Ht1, Ht2⟩
  iapply (Rounds.wp_send_pointsTo 𝒱₀ ER (Rd A) (c : Thread nD τ) none (κ₁ := K (kSend c d)) (κ₂ := K (kRecv d (sq c d)))
    (r₁ := 0) (r₂ := 0) (d₁ := c) (d₂ := c) (fd := fd)
    (by rw [duties_send A c d hb]; exact Finset.mem_singleton_self _)
    (by rw [duties_recv, snd_sq c d hb]; exact Finset.mem_singleton_self _)
    () () N rfl rfl rfl O rfl (W := W)
    (by rw [payload_send]; exact BI.Entails.refl _)
    (by
      rw [payload_recv]; unfold landed slotPts
      iintro H
      iexists _
      isplitr
      · ipureintro
        rw [snd_sq c d hb]
        exact View.read_write_univ fd _
      iexact H)) $$ [Hrow Hslot HO Ht1 Ht2]
  isplitr; · iapply (env_inv A K (kSend c d)); iexact HE
  isplitr; · iapply (env_inv A K (kRecv d (sq c d))); iexact HE
  isplitl [Hrow]; · iexact Hrow
  isplitl [Hslot]; · iexact Hslot
  isplitl [HO]; · iexact HO
  isplitl [Ht1]; · iexact Ht1
  isplitr; · iapply (env_reached A K (kSend c d)); iexact HE
  isplitl [Ht2]; · iexact Ht2
  iapply (env_reached A K (kRecv d (sq c d))); iexact HE

/-- The conditional transfer to device `b`, made for every `b` but `c` itself. -/
theorem step_send {Q : α → sProp 𝕄} {dev : condOf (place c) (wordOf b) = 1#1 → Dev nD} (hd : ∀ h, dev h = b)
    {inb₁ : condOf (place c) (wordOf b) = 1#1 → ∀ a, (![(slotWord (wordOf b) (place c)).toNat] : Fin 1 → ℕ) a + S1.size a ≤ S15.size a}
    {inb₃ : condOf (place c) (wordOf b) = 1#1 → ∀ a, (![(slotWord (wordOf b) (place c)).toNat, 0, 0] : Fin 3 → ℕ) a + S1x64x1024.size a ≤ S15x64x1024.size a}
    {hsc : ∀ h, (((lM.slice (Rect.unit (s := S15x64x1024) ![(slotWord (wordOf b) (place c)).toNat, 0, 0] S1x64x1024.size (inb₃ h)) (fun _ => rfl)).squeeze S64x1024 squeezes_S1x64x1024_S64x1024
      : Memref sig .tc .vmem S64x1024 .bf16) : Memref sig (Dev.tc (dev h) : Thread nD τ).2.kind .vmem S64x1024 .bf16).view.ref.isScScratch = false}
    {h₁ : (rowM b).view.WordExact} {h₂ : ∀ h, ((lM.slice (Rect.unit (s := S15x64x1024) ![(slotWord (wordOf b) (place c)).toNat, 0, 0] S1x64x1024.size (inb₃ h)) (fun _ => rfl)).squeeze S64x1024 squeezes_S1x64x1024_S64x1024).view.WordExact}
    {h₃ : ∀ h, DmaTarget.Typed .vmem (.dma ((cc0_scratch3.slice (Rect.unit (s := S15) ![(slotWord (wordOf b) (place c)).toNat] S1.size (inb₁ h))).squeeze S_ squeezes_S1_S_).sem)
      (.remote (Dev.tc (dev h) : Thread nD τ) ((lM.slice (Rect.unit (s := S15x64x1024) ![(slotWord (wordOf b) (place c)).toNat, 0, 0] S1x64x1024.size (inb₃ h)) (fun _ => rfl)).squeeze S64x1024 squeezes_S1x64x1024_S64x1024) (.dma (sendS b)) (hsc h))}
    {e : Prog (TpuEff nD τ sig (Elt F) Λ₀ .tc) α} :
    iprop(env A K ∗ sendSt A c b.val)
      ⊢ iprop((sendSt A c (b.val + 1) -∗ WP c e Q)
          -∗ WP c (if h : condOf (place c) (wordOf b) = 1#1 then (do
              Prog.lift (.enqueueDma (rowM b) (.remote (Dev.tc (dev h) : Thread nD τ)
                ((lM.slice (Rect.unit (s := S15x64x1024) ![(slotWord (wordOf b) (place c)).toNat, 0, 0] S1x64x1024.size (inb₃ h)) (fun _ => rfl)).squeeze S64x1024 squeezes_S1x64x1024_S64x1024)
                (.dma (sendS b)) (hsc h))
                (.dma ((cc0_scratch3.slice (Rect.unit (s := S15) ![(slotWord (wordOf b) (place c)).toNat] S1.size (inb₁ h))).squeeze S_ squeezes_S1_S_).sem) h₁ (h₂ h) (h₃ h)); e) else e) Q) := by
  unfold WP
  by_cases h : condOf (place c) (wordOf b) = 1#1
  · have hb := (condOf_iff c b).mp h
    rw [dif_pos h]
    simp only [Prog.lift, Prog.bind_op, Prog.bind_ret, Prog.pure_eq_ret]
    unfold sendSt owe
    iintro ⟨#HE, ⟨%W, HO⟩, Hst⟩ Hk
    ihave Hs := (stage_step (· ≠ c) _ _ b hb) $$ Hst
    icases Hs with ⟨⟨Hrow, Ht1, Ht2, Hslot⟩, Hback⟩
    unfold slotAny
    icases Hslot with ⟨%fd, Hslot⟩
    ihave HO := (Entails.of_eq (congrArg (fun O => (owes (c : Thread nD τ) O W : sProp 𝕄)) (owedFrom_step c b (owedRecv c) hb))) $$ HO
    iapply (wp_send_block c b hb (hd h) rfl rfl (slotM_of_off (by rw [slotWord_eq c b hb]) _) (recvS_of_off (by rw [slotWord_eq c b hb]) _) fd (owedFrom c (owedRecv c) (b.val + 1)) W) $$ [Hrow Hslot HO Ht1 Ht2]
    · isplitr; · iexact HE
      isplitl [Hrow]; · iexact Hrow
      isplitl [Hslot]; · iexact Hslot
      isplitl [HO]; · iexact HO
      isplitl [Ht1]; · iexact Ht1
      iexact Ht2
    iintro ⟨Hcr, HO⟩
    iapply Hk
    isplitl [HO]; · iexists W; iexact HO
    iapply Hback; iexact Hcr
  · have hb : ¬ b ≠ c := fun h' => h ((condOf_iff c b).mpr h')
    rw [dif_neg h]
    unfold sendSt
    iintro ⟨-, HO, Hst⟩ Hk
    iapply Hk
    have hbc : b = c := not_ne_iff.mp hb
    rw [← stage_skip (· ≠ c) _ _ b hb, hbc, ← owedFrom_skip]
    isplitl [HO]; · iexact HO
    iexact Hst

/-- A wait of device `c`, owing nothing, on one of its DMA semaphores for one block's credit: the round's payload is
    handed over and the cell closed at zero. -/
theorem wp_wait_block {Q : α → sProp 𝕄} {s : DmaSem sig} (ck : KI) (hck : csem ck = .dma s)
    {P : sProp 𝕄} (hP : bigSep ((Rd A).duties ((c : Thread nD τ), .dma s) 0 \ ∅) (fun d => (Rd A).payload ((c : Thread nD τ), .dma s) 0 d) = P)
    (hN : (Rd A).expect ((c : Thread nD τ), .dma s) 0 = N)
    {src dst : Memref sig .tc .vmem S64x1024 .bf16} {h₁ : src.view.WordExact} {h₂ : dst.view.WordExact}
    (hdst : dst.view.dmaCredit = N)
    {k : PUnit → Prog (TpuEff nD τ sig (Elt F) Λ₀ .tc) α} :
    iprop(env A K ∗ owe c 0 ∗ cred (tallyAt ((c : Thread nD τ), .dma s) () N) ∗ atPos ER ((c : Thread nD τ), .dma s) 0 ∅ 0)
      ⊢ iprop(((owe c 0 ∗ P ∗ semVal ((c : Thread nD τ), .dma s) 0) -∗ WP₀ c (k ⟨⟩) Q)
          -∗ WP₀ c (.op (.waitDma2 s src dst h₁ h₂) k) Q) := by
  unfold owe
  have hI : env A K ⊢ cellInv ER (Rd A) (K (c, ck)) ((c : Thread nD τ), .dma s) := hck ▸ env_inv A K (c, ck)
  iintro ⟨#HE, ⟨%W, HO⟩, Hcr, Hat⟩ Hk
  iapply (Rounds.wp_wait_rest_token 𝒱₀ ER (Rd A) (c : Thread nD τ) none (κ := K (c, ck))
      (wpE_waitDma2_eq 𝒱₀ (c : Thread nD τ) none Set.univ) (Set.mem_univ _) () (O := 0) (W := W) (R := 0) (m := 0) (T := ∅)
      (by rw [Nat.zero_add, hN, hdst])) $$ [Hcr HO Hat]
  · isplitr; · iapply hI; iexact HE
    isplitl [Hcr]; · rw [hdst]; iexact Hcr
    isplitl [HO]; · iexact HO
    isplitr; · rw [MayWait_zero]; iempintro
    iexact Hat
  iintro ⟨HO, Hat, -, Hpay⟩
  ihave HP := (Entails.of_eq hP) $$ Hpay
  imod (Rounds.cell_close ER (Rd A) (Set.mem_univ (K (c, ck))) (fun h => h) (R := 0 + 1) (duties_later A ((c : Thread nD τ), .dma s))) $$ [Hat] with Hz
  · isplitr; · iapply hI; iexact HE
    iexact Hat
  iapply Hk
  isplitl [HO]; · iexists _; iexact HO
  isplitl [HP]; · iexact HP
  iexact Hz

/-- The wait for the block in slot `q`. -/
theorem step_recv {Q : α → sProp 𝕄} (q : Fin 15)
    {src : Memref sig .tc .vmem S64x1024 .bf16} {h₁ : src.view.WordExact} {h₂ : (slotM q).view.WordExact}
    {k : PUnit → Prog (TpuEff nD τ sig (Elt F) Λ₀ .tc) α} :
    iprop(env A K ∗ recvSt A c q.val)
      ⊢ iprop((recvSt A c (q.val + 1) -∗ WP c (k ⟨⟩) Q) -∗ WP c (Prog.lift (.waitDma2 (recvS q) src (slotM q) h₁ h₂) >>= k) Q) := by
  unfold WP
  simp only [Prog.lift, Prog.bind_op, Prog.bind_ret]
  unfold recvSt
  iintro ⟨#HE, HO, Hst⟩ Hk
  ihave Hs := (stage_step (fun _ => True) _ _ q trivial) $$ Hst
  icases Hs with ⟨⟨Hcr, Hat⟩, Hback⟩
  iapply (wp_wait_block c (A := A) (K := K) (.inl (.inr q)) rfl (dst := slotM q) (rest_recv A c q) (expect_recv A c q) rfl) $$ [HO Hcr Hat]
  · isplitr; · iexact HE
    isplitl [HO]; · iexact HO
    isplitl [Hcr]; · iexact Hcr
    iexact Hat
  iintro ⟨HO, HP, Hz⟩
  iapply Hk
  isplitl [HO]; · iexact HO
  iapply Hback
  isplitl [HP]; · iexact HP
  iexact Hz

/-- The conditional wait for the block sent to device `b` to be back, made for every `b` but `c` itself. -/
theorem step_back {Q : α → sProp 𝕄}
    {src : Memref sig .tc .vmem S64x1024 .bf16} {h₁ : src.view.WordExact} {h₂ : (rowM b).view.WordExact}
    {e : Prog (TpuEff nD τ sig (Elt F) Λ₀ .tc) α} :
    iprop(env A K ∗ backSt A c b.val)
      ⊢ iprop((backSt A c (b.val + 1) -∗ WP c e Q)
          -∗ WP c (if _h : condOf (place c) (wordOf b) = 1#1 then (do Prog.lift (.waitDma2 (sendS b) src (rowM b) h₁ h₂); e) else e) Q) := by
  unfold WP
  by_cases h : condOf (place c) (wordOf b) = 1#1
  · have hb := (condOf_iff c b).mp h
    rw [dif_pos h]
    simp only [Prog.lift, Prog.bind_op, Prog.bind_ret, Prog.pure_eq_ret]
    unfold backSt
    iintro ⟨#HE, HO, Hst⟩ Hk
    ihave Hs := (stage_step (· ≠ c) _ _ b hb) $$ Hst
    icases Hs with ⟨⟨Hcr, Hat⟩, Hback⟩
    iapply (wp_wait_block c (A := A) (K := K) (.inl (.inl b)) rfl (dst := rowM b) (rest_send A c b hb) (expect_send A c b hb) rfl) $$ [HO Hcr Hat]
    · isplitr; · iexact HE
      isplitl [HO]; · iexact HO
      isplitl [Hcr]; · iexact Hcr
      iexact Hat
    iintro ⟨HO, HP, Hz⟩
    iapply Hk
    isplitl [HO]; · iexact HO
    iapply Hback
    isplitl [HP]; · iexact HP
    iexact Hz
  · have hb : ¬ b ≠ c := fun h' => h ((condOf_iff c b).mpr h')
    rw [dif_neg h]
    unfold backSt
    iintro ⟨-, HO, Hst⟩ Hk
    iapply Hk
    rw [← stage_skip (· ≠ c) _ _ b hb]
    isplitl [HO]; · iexact HO
    iexact Hst

variable (A) in
/-- What a load of slot `q` reads: block `c` of the sender's product, with a leading axis of one. -/
def slotV (q : Fin 15) : Vec F S1x64x1024 .bf16 :=
  shapeCast S1x64x1024 (rowsOf A (snd c q) c) (by decide)

/-- A load of a slot that has landed reads the block its sender sent. -/
theorem step_slot {Q : α → sProp 𝕄} {n : ℕ} (q : Fin 15) (hq : q.val < n)
    {hl : (lM : Memref sig .tc .vmem S15x64x1024 .bf16).view.LoadsAt (slotR q).toLoadRect}
    {k : Vec F S1x64x1024 .bf16 → Prog (TpuEff nD τ sig (Elt F) Λ₀ .tc) α} :
    recvSt A c n
      ⊢ iprop((recvSt A c n -∗ WP c (k (slotV A c q)) Q)
          -∗ WP c (Prog.lift (.load lM (slotR q).toLoadRect hl) >>= k) Q) := by
  unfold WP
  simp only [Prog.lift, Prog.bind_op, Prog.bind_ret]
  unfold recvSt landed slotPts
  iintro ⟨HO, Hst⟩ Hk
  ihave Hs := (stage_look (fun _ => True) _ _ q trivial hq) $$ Hst
  icases Hs with ⟨⟨⟨%f, %hf, Hslot⟩, Hz⟩, Hback⟩
  have hv : slotV A c q = (lM.access (slotR q)).read (Elt F) f := by
    unfold slotV
    rw [← hf]
    exact (congrArg (fun v => shapeCast S1x64x1024 v (by decide)) (Memref.read_squeeze_slice lM (slotR q) (fun _ => rfl) squeezes_S1x64x1024_S64x1024 (show S1x64x1024.ShapeCasts S64x1024 by decide) f)).trans
      (shapeCast_shapeCast _ _ _)
  iapply (wp_load_rect 𝒱₀ (c : Thread nD τ) none Set.univ (m := lM) (r := slotR q) (S := (slotM q).view.set)
    (subset_of_eq (View.set_reshape (lM.slice (slotR q) (fun _ => rfl)).view _).symm)) $$ Hslot
  iintro Hslot
  rw [hv]
  iapply Hk
  isplitl [HO]; · iexact HO
  iapply Hback
  isplitl [Hslot]
  · iexists f
    isplitr; · ipureintro; exact hf
    iexact Hslot
  iexact Hz

/-- A load of the rows of the product that stay on the device. -/
theorem step_own {Q : α → sProp 𝕄} {off : Fin 2 → ℕ} (hoff : off = ![64 * c.val, 0])
    {inb : ∀ a, off a + S64x1024.size a ≤ S1024x1024.size a}
    {hl : (aM : Memref sig .tc .vmem S1024x1024 .bf16).view.LoadsAt (Rect.unit (s := S1024x1024) off S64x1024.size inb).toLoadRect}
    {k : Vec F S64x1024 .bf16 → Prog (TpuEff nD τ sig (Elt F) Λ₀ .tc) α} :
    rowPts c c (A c)
      ⊢ iprop((rowPts c c (A c) -∗ WP c (k (rowsOf A c c)) Q)
          -∗ WP c (Prog.lift (.load aM (Rect.unit (s := S1024x1024) off S64x1024.size inb).toLoadRect hl) >>= k) Q) := by
  unfold WP
  subst hoff
  simp only [Prog.lift, Prog.bind_op, Prog.bind_ret]
  unfold rowPts
  iintro Hrow Hk
  iapply (wp_load_rect 𝒱₀ (c : Thread nD τ) none Set.univ (m := aM) (r := Rect.unit (s := S1024x1024) ![64 * c.val, 0] S64x1024.size inb)
    (S := (rowM c).view.set) (Finset.Subset.refl _)) $$ Hrow
  iexact Hk

/-- The wait on the barrier: with every other device's signal taken, device `c` holds, for each other device, that
    device's slot for it; its barrier counter is closed at zero. -/
theorem step_barrier {Q : α → sProp 𝕄} {k : PUnit → Prog (TpuEff nD τ sig (Elt F) Λ₀ .tc) α} :
    iprop(env A K ∗ owe c (owedFrom c (owedRecv c) 0) ∗ cred (tallyAt (barCell c) () 15) ∗ atPos ER (barCell c) 0 ∅ 0)
      ⊢ iprop(((owe c (owedFrom c (owedRecv c) 0) ∗ (bigSep (Finset.univ.erase c) fun d => slotAny (F := F) d (sq c d)) ∗ semVal (barCell c) 0) -∗ WP c (k ⟨⟩) Q)
          -∗ WP c (semWaitWord barS 15#32 >>= k) Q) := by
  unfold WP
  simp only [semWaitWord, Prog.bind_op, Prog.bind_ret]
  unfold owe
  iintro ⟨#HE, ⟨%W, HO⟩, Hcr, Hat⟩ Hk
  iapply (Rounds.wp_wait_rest_token 𝒱₀ ER (Rd A) (c : Thread nD τ) none (κ := K (kBar c))
      (wpE_semWait_eq 𝒱₀ (c : Thread nD τ) none Set.univ) (Set.mem_univ _) () (O := owedFrom c (owedRecv c) 0) (W := W) (R := 0) (m := 0) (T := ∅)
      (by rw [Nat.zero_add]; exact (expect_bar A c).symm)) $$ [Hcr HO Hat]
  · isplitr; · iapply (env_inv A K (kBar c)); iexact HE
    isplitl [Hcr]; · iexact Hcr
    isplitl [HO]; · iexact HO
    isplitr; · iapply (env_mayWait A K c 0); iexact HE
    iexact Hat
  iintro ⟨HO, Hat, -, Hpay⟩
  ihave HP := (Entails.of_eq (rest_bar A c)) $$ Hpay
  imod (Rounds.cell_close ER (Rd A) (Set.mem_univ (K (kBar c))) (fun h => h) (R := 0 + 1) (duties_later A (barCell c))) $$ [Hat] with Hz
  · isplitr; · iapply (env_inv A K (kBar c)); iexact HE
    iexact Hat
  iapply Hk
  isplitl [HO]; · iexists _; iexact HO
  isplitl [HP]; · iexact HP
  iexact Hz

/-- Step `n` of a numbered loop state, keeping the persistent surroundings beside it. -/
theorem keep (S : ℕ → sProp 𝕄) (n : ℕ) {W W' : sProp 𝕄} (h : iprop(env A K ∗ S n) ⊢ iprop((S (n + 1) -∗ W) -∗ W')) :
    iprop(env A K ∗ S n) ⊢ iprop((iprop(env A K ∗ S (n + 1)) -∗ W) -∗ W') := by
  iintro ⟨#HE, HS⟩ Hk
  iapply h $$ [HS]
  · isplitr; · iexact HE
    iexact HS
  iintro HS
  iapply Hk
  isplitr; · iexact HE
  iexact HS

/-- The device's own number. -/
theorem step_device {Q : α → sProp 𝕄} {k : Dev nD → Prog (TpuEff nD τ sig (Elt F) Λ₀ .tc) α} :
    WP c (k c) Q ⊢ WP c (Prog.lift .deviceId >>= k) Q := by
  unfold WP
  simp only [Prog.lift, Prog.bind_op, Prog.bind_ret, wp_deviceId]
  exact BI.Entails.refl _

/-- An operation at the head of a program, as the program writes it. -/
theorem step_op {β : Type} {Q : α → sProp 𝕄} {o : TpuEff nD τ sig (Elt F) Λ₀ .tc β} {k : β → Prog (TpuEff nD τ sig (Elt F) Λ₀ .tc) α} :
    WP c (.op o k) Q ⊢ WP c (Prog.lift o >>= k) Q := by
  unfold WP; exact BI.Entails.refl _

/-- A program that returns. -/
theorem step_ret {Q : α → sProp 𝕄} (a : α) : Q a ⊢ WP c (pure a) Q := by
  unfold WP
  show Q a ⊢ wp _ _ _ (.ret a) Q
  rw [wp_ret]
  iintro H; imodintro; iexact H

/-- A piece of a program, then the rest at what the piece returns. -/
theorem step_bind {β : Type} {Q : β → sProp 𝕄} (p : Prog (TpuEff nD τ sig (Elt F) Λ₀ .tc) α) (k : α → Prog (TpuEff nD τ sig (Elt F) Λ₀ .tc) β) :
    WP c p (fun a => WP c (k a) Q) ⊢ WP c (p >>= k) Q := by
  unfold WP
  exact Entails.of_eq (wp_bind _ _ _ p k Q).symm

end Step

end Cert.Scatter

end
-- ==== Proof.Bufs.lean ====
/-
  The buffers of one device, whole and in pieces: the product as sixteen blocks of rows, the landing buffer as fifteen
  slots; loads and stores of a whole buffer; and the passage through the barrier, where the product is cut up.
-/
module

public import proofs.«01_k».proof.Proof.Steps
public import Idealize.ShloMosaic.Lib.Ring

@[expose] public section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (lead_disjoint lead_cover pointsTo_blocks pointsTo_blocks_join_exists)

set_option maxRecDepth 4096

variable {F : FTy → Type} [FloatOps F]

local notation "𝕄" => MT nD τ sig Unit (Elt F) ℕ UU ℕ

variable {A : Dev nD → (cc0_scratch0 : Ref sig .tc).ty.Contents (Elt F)} {K : Dev nD × KI → ℕ} (c : Dev nD)

/-- A buffer of device `c` held whole at the contents `f`. -/
noncomputable abbrev held (b : Ref sig .tc) (f : b.ty.Contents (Elt F)) : sProp 𝕄 := ((c : Thread nD τ).loc b) ↦{fullShare} f

theorem zero₂ : (![0, 0] : Fin 2 → Nat) = fun _ => 0 := by decide

/-! ## Blocks and slots -/

/-- The elements of block `b` of the product's rows, and of slot `q` of the landing buffer. -/
abbrev rowSet (b : Fin nD) : Finset S1024x1024.Idx := (Rect.unit (s := S1024x1024) ![64 * b.val, 0] S64x1024.size (row_inb b)).set
abbrev slotSet (q : Fin 15) : Finset S15x64x1024.Idx := (slotR q).set

theorem row_set (b : Dev nD) : (rowM b).view.set = rowSet b := View.set_slice_whole cc0_scratch0 _
theorem slot_set (q : Fin 15) : (slotM q).view.set = slotSet q := (View.set_reshape _ _).trans (View.set_slice_whole cc0_scratch1 _)

theorem rows_disjoint : ∀ b b' : Fin nD, b ≠ b' → Disjoint (rowSet b) (rowSet b') :=
  lead_disjoint (s := S1024x1024) 0 64 (fun b : Fin nD => ![64 * b.val, 0]) S64x1024.size row_inb (fun _ => rfl) rfl
theorem rows_cover : Finset.univ.biUnion rowSet = Finset.univ :=
  lead_cover (s := S1024x1024) 0 64 (fun b : Fin nD => ![64 * b.val, 0]) S64x1024.size row_inb (fun _ => rfl)
    (by intro b a ha; fin_cases a; exact absurd rfl ha; rfl) rfl (by intro a ha; fin_cases a; exact absurd rfl ha; rfl) rfl

theorem slots_disjoint : ∀ q q' : Fin 15, q ≠ q' → Disjoint (slotSet q) (slotSet q') :=
  lead_disjoint (s := S15x64x1024) 0 1 (fun q : Fin 15 => ![q.val, 0, 0]) S1x64x1024.size slot_inb (fun q => (Nat.one_mul q.val).symm) rfl
theorem slots_cover : Finset.univ.biUnion slotSet = Finset.univ :=
  lead_cover (s := S15x64x1024) 0 1 (fun q : Fin 15 => ![q.val, 0, 0]) S1x64x1024.size slot_inb (fun q => (Nat.one_mul q.val).symm)
    (by intro b a ha; fin_cases a; exact absurd rfl ha; rfl; rfl) rfl (by intro a ha; fin_cases a; exact absurd rfl ha; rfl; rfl) rfl

omit [FloatOps F] in
theorem rowPts_eq (b : Dev nD) (f : (cc0_scratch0 : Ref sig .tc).ty.Contents (Elt F)) :
    (rowPts c b f : sProp 𝕄) = ((c : Thread nD τ).loc cc0_scratch0 ↦[rowSet b]{fullShare} f) := by
  unfold rowPts; rw [row_set]
omit [FloatOps F] in
theorem slotPts_eq (q : Fin 15) (f : (cc0_scratch1 : Ref sig .tc).ty.Contents (Elt F)) :
    (slotPts c q f : sProp 𝕄) = ((c : Thread nD τ).loc cc0_scratch1 ↦[slotSet q]{fullShare} f) := by
  unfold slotPts; rw [slot_set]

omit [FloatOps F] in
/-- The product's buffer is its sixteen blocks of rows; -/
theorem rows_eq (f : (cc0_scratch0 : Ref sig .tc).ty.Contents (Elt F)) :
    held c cc0_scratch0 f = (bigSep Finset.univ fun b : Dev nD => rowPts c b f : sProp 𝕄) := by
  simp only [rowPts_eq]
  exact pointsTo_blocks (ℓ := (c : Thread nD τ).loc cc0_scratch0) rowSet rows_disjoint rows_cover f
omit [FloatOps F] in
/-- one of them set apart. -/
theorem rows_own (f : (cc0_scratch0 : Ref sig .tc).ty.Contents (Elt F)) :
    held c cc0_scratch0 f = (iprop(rowPts c c f ∗ bigSep (Finset.univ.erase c) fun b : Dev nD => rowPts c b f) : sProp 𝕄) :=
  (rows_eq c f).trans (bigSep_univ_split c)
omit [FloatOps F] in
/-- The landing buffer is its fifteen slots; -/
theorem slots_eq (f : (cc0_scratch1 : Ref sig .tc).ty.Contents (Elt F)) :
    held c cc0_scratch1 f = (bigSep Finset.univ fun q : Fin 15 => slotPts c q f : sProp 𝕄) := by
  simp only [slotPts_eq]
  exact pointsTo_blocks (ℓ := (c : Thread nD τ).loc cc0_scratch1) slotSet slots_disjoint slots_cover f
omit [FloatOps F] in
/-- the slots, each at some contents, are the landing buffer at some contents. -/
theorem slots_join (f₀ : (cc0_scratch1 : Ref sig .tc).ty.Contents (Elt F)) :
    (bigSep Finset.univ fun q : Fin 15 => slotAny (F := F) c q : sProp 𝕄) ⊢ iprop(∃ g, held c cc0_scratch1 g) := by
  unfold slotAny
  simp only [slotPts_eq]
  exact pointsTo_blocks_join_exists (ℓ := (c : Thread nD τ).loc cc0_scratch1) slotSet slots_disjoint slots_cover f₀

/-! ## Loads and stores of a whole buffer -/

section Whole
variable {α : Type} {s : Shape} {e : EltTy}

/-- A load of a buffer held whole goes on at what it reads. -/
theorem step_load (m : Memref sig .tc .vmem s e) {r : LoadRect s} {hl : m.view.LoadsAt r}
    {k : (r.shape.Idx → Elt F e) → Prog (TpuEff nD τ sig (Elt F) Λ₀ .tc) α} {Q : α → sProp 𝕄} (f : m.view.ref.ty.Contents (Elt F)) :
    held c m.view.ref f
      ⊢ iprop((held c m.view.ref f -∗ WP c (k (m.view.readAt (Elt F) r f)) Q) -∗ WP c (Prog.lift (.load m r hl) >>= k) Q) := by
  unfold WP
  simp only [Prog.lift, Prog.bind_op, Prog.bind_ret]
  exact wp_load 𝒱₀ (c : Thread nD τ) none Set.univ (m := m) (Finset.subset_univ _)

/-- A store over a buffer held whole goes on with it written. -/
theorem step_store (m : Memref sig .tc .vmem s e) {r : Rect s} {w : r.shape.Idx → Elt F e} {Mk : Finset r.shape.Idx} {hx : (m.access r).Stores Mk}
    {hm : Mk = Finset.univ ∨ ∀ a, r.stride a = 1}
    {k : PUnit → Prog (TpuEff nD τ sig (Elt F) Λ₀ .tc) α} {Q : α → sProp 𝕄} (f : m.view.ref.ty.Contents (Elt F)) :
    held c m.view.ref f
      ⊢ iprop((held c m.view.ref ((m.access r).write (Elt F) f w Mk) -∗ WP c (k ⟨⟩) Q) -∗ WP c (Prog.lift (.store m r w Mk hx hm) >>= k) Q) := by
  unfold WP
  simp only [Prog.lift, Prog.bind_op, Prog.bind_ret]
  exact wp_store 𝒱₀ (c : Thread nD τ) none Set.univ (m := m) (r := r) (Mk := Mk) (Finset.subset_univ _)

/-- A step that leaves the arrivals as they are keeps the persistent surroundings beside them. -/
theorem look (n : ℕ) {W W' : sProp 𝕄} (h : recvSt A c n ⊢ iprop((recvSt A c n -∗ W) -∗ W')) :
    iprop(env A K ∗ recvSt A c n) ⊢ iprop((iprop(env A K ∗ recvSt A c n) -∗ W) -∗ W') := by
  iintro ⟨#HE, HS⟩ Hk
  iapply h $$ HS
  iintro HS
  iapply Hk
  isplitr; · iexact HE
  iexact HS

/-- The tokens of what device `c` pays by its transfers: for each other device, at its own send cell and at the receive
    cell of the slot there. -/
noncomputable def payIn (c : Dev nD) : sProp 𝕄 :=
  bigSep (Finset.univ.erase c) fun b : Dev nD => iprop(dutyTok ER (sendCell c b) 0 c ∗ dutyTok ER (recvCell b (sq c b)) 0 c)

omit [FloatOps F] in
/-- Three families over one set, the second of pairs, are one family. -/
theorem bigSep_gather {I : Type} [DecidableEq I] (S : Finset I) (P Q R T : I → sProp 𝕄) :
    iprop(bigSep S P ∗ (bigSep S fun i => iprop(Q i ∗ R i)) ∗ bigSep S T) ⊢ bigSep S fun i => iprop(P i ∗ Q i ∗ R i ∗ T i) := by
  have h : (bigSep S fun i => iprop(P i ∗ Q i ∗ R i ∗ T i)) = iprop(bigSep S P ∗ bigSep S Q ∗ bigSep S R ∗ bigSep S T) := by
    rw [bigSep_sep', bigSep_sep', bigSep_sep']
  have h' : (bigSep S fun i => iprop(Q i ∗ R i)) = iprop(bigSep S Q ∗ bigSep S R) := bigSep_sep' _ _ _
  rw [h, h']
  iintro ⟨HP, ⟨HQ, HR⟩, HT⟩
  isplitl [HP]; · iexact HP
  isplitl [HQ]; · iexact HQ
  isplitl [HR]; · iexact HR
  iexact HT

/-- Past the barrier: the product is cut into its blocks, one stays, and each other block stands ready with the tokens of
    its transfer and the slot its receiver handed over. -/
theorem enter {Q : α → sProp 𝕄} {k : PUnit → Prog (TpuEff nD τ sig (Elt F) Λ₀ .tc) α} :
    iprop(iprop(env A K ∗ sigSt (F := F) c 16) ∗ held c cc0_scratch0 (A c) ∗ cred (tallyAt (barCell c) () 15) ∗ atPos ER (barCell c) 0 ∅ 0 ∗ payIn c)
      ⊢ iprop((iprop(iprop(env A K ∗ sendSt A c 0) ∗ rowPts c c (A c) ∗ semVal (barCell c) 0) -∗ WP c (k ⟨⟩) Q)
          -∗ WP c (semWaitWord barS 15#32 >>= k) Q) := by
  unfold sigSt
  rw [owedFrom_end, add_zero, rows_own]
  iintro ⟨⟨#HE, HO, -⟩, ⟨Hown, Hrows⟩, Hcr, Hat, Hpay⟩ Hk
  iapply (step_barrier c) $$ [HO Hcr Hat]
  · isplitr; · iexact HE
    isplitl [HO]; · iexact HO
    isplitl [Hcr]; · iexact Hcr
    iexact Hat
  iintro ⟨HO, Hslots, Hz⟩
  iapply Hk
  isplitl [HO Hrows Hpay Hslots]
  · isplitr; · iexact HE
    unfold sendSt payIn
    isplitl [HO]; · iexact HO
    rw [stage_zero, Finset.filter_ne']
    iapply (bigSep_gather (Finset.univ.erase c) _ _ _ _)
    isplitl [Hrows]; · iexact Hrows
    isplitl [Hpay]; · iexact Hpay
    iexact Hslots
  isplitl [Hown]; · iexact Hown
  iexact Hz

end Whole

end Cert.Scatter

end
-- ==== Proof.Body.lean ====
/-
  The launch's one point, executed: the program's twelve pieces in order, one step lemma per effect, from what the launch
  hands device `c` to the two scratch buffers whole again, every counter at zero and the result stored.
-/
module

public import proofs.«01_k».proof.Proof.Bufs

@[expose] public section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option maxRecDepth 4096

variable {F : FTy → Type} [FloatOps F]

local notation "𝕄" => MT nD τ sig Unit (Elt F) ℕ UU ℕ

variable {A : Dev nD → (cc0_scratch0 : Ref sig .tc).ty.Contents (Elt F)} {K : Dev nD × KI → ℕ} (c : Dev nD)

omit [FloatOps F] in
theorem read_x (inb) (f : (cc0_stg0_0 : Ref sig .tc).ty.Contents (Elt F)) :
    (xM : Memref sig .tc .vmem S1024x64 .f32).view.readAt (Elt F) (Rect.unit (s := S1024x64) ![0, 0] S1024x64.size inb).toLoadRect f = f :=
  Memref.readAt_unit_zero (Elt F) cc0_stg0_0 zero₂ inb f
omit [FloatOps F] in
theorem read_w (inb) (f : (cc0_stg1_0 : Ref sig .tc).ty.Contents (Elt F)) :
    (wM : Memref sig .tc .vmem S64x1024 .f32).view.readAt (Elt F) (Rect.unit (s := S64x1024) ![0, 0] S64x1024.size inb).toLoadRect f = f :=
  Memref.readAt_unit_zero (Elt F) cc0_stg1_0 zero₂ inb f
omit [FloatOps F] in
theorem write_acc (inb) (f w : (cc0_scratch0 : Ref sig .tc).ty.Contents (Elt F)) :
    ((aM : Memref sig .tc .vmem S1024x1024 .bf16).access (Rect.unit (s := S1024x1024) ![0, 0] S1024x1024.size inb)).write (Elt F) f w Finset.univ = w :=
  Memref.write_access_unit_zero_univ (Elt F) cc0_scratch0 zero₂ inb f w
omit [FloatOps F] in
theorem write_out (inb) (f w : (cc0_stg2_0 : Ref sig .tc).ty.Contents (Elt F)) :
    ((oM : Memref sig .tc .vmem S64x1024 .f32).access (Rect.unit (s := S64x1024) ![0, 0] S64x1024.size inb)).write (Elt F) f w Finset.univ = w :=
  Memref.write_access_unit_zero_univ (Elt F) cc0_stg2_0 zero₂ inb f w

/-- The first piece: the signals to devices 0 to 7. -/
theorem part1 {Q : _ → sProp 𝕄} :
    iprop(iprop(env A K ∗ sigSt (F := F) c 0) ∗ (iprop(env A K ∗ sigSt (F := F) c 8) -∗ Q ⟨c, place c, SemArray.scalar (sig.barrier 0 rfl)⟩))
      ⊢ WP c (k0_part1 (F := F) xM (Memref.isWhole_whole _) wM (Memref.isWhole_whole _) oM (Memref.isWhole_whole _) aM (Memref.isWhole_whole _)
          lM (Memref.isWhole_whole _) cc0_scratch2 cc0_scratch3) Q := by
  rw [k0_part1_eq_skeleton]; unfold k0_part1_skel
  iintro ⟨H, Hk⟩
  iapply (step_device c)
  iapply (keep (sigSt c) 0 (step_signal c 0 (fun _ => rfl))) $$ H; iintro H
  iapply (keep (sigSt c) 1 (step_signal c 1 (fun _ => rfl))) $$ H; iintro H
  iapply (keep (sigSt c) 2 (step_signal c 2 (fun _ => rfl))) $$ H; iintro H
  iapply (keep (sigSt c) 3 (step_signal c 3 (fun _ => rfl))) $$ H; iintro H
  iapply (keep (sigSt c) 4 (step_signal c 4 (fun _ => rfl))) $$ H; iintro H
  iapply (keep (sigSt c) 5 (step_signal c 5 (fun _ => rfl))) $$ H; iintro H
  iapply (keep (sigSt c) 6 (step_signal c 6 (fun _ => rfl))) $$ H; iintro H
  iapply (keep (sigSt c) 7 (step_signal c 7 (fun _ => rfl))) $$ H; iintro H
  iapply (step_ret c _)
  iapply Hk; iexact H

/-- The second piece: the signals to devices 8 to 15, and the two operands read. -/
theorem part2 {Q : _ → sProp 𝕄} (X : (cc0_stg0_0 : Ref sig .tc).ty.Contents (Elt F)) (Y : (cc0_stg1_0 : Ref sig .tc).ty.Contents (Elt F))
    (Z : (cc0_scratch0 : Ref sig .tc).ty.Contents (Elt F)) :
    iprop(iprop(env A K ∗ sigSt (F := F) c 8) ∗ held c cc0_stg0_0 X ∗ held c cc0_stg1_0 Y ∗ held c cc0_scratch0 Z
        ∗ ((iprop(env A K ∗ sigSt (F := F) c 16) ∗ held c cc0_stg0_0 X ∗ held c cc0_stg1_0 Y ∗ held c cc0_scratch0 Z) -∗ Q (k0_pay1 X Y)))
      ⊢ WP c (k0_part2 (F := F) xM (Memref.isWhole_whole _) wM (Memref.isWhole_whole _) oM (Memref.isWhole_whole _) aM (Memref.isWhole_whole _)
          lM (Memref.isWhole_whole _) cc0_scratch2 cc0_scratch3 c (place c) (SemArray.scalar (sig.barrier 0 rfl))) Q := by
  rw [k0_part2_eq_skeleton]; unfold k0_part2_skel
  iintro ⟨H, HX, HY, HZ, Hk⟩
  iapply (keep (sigSt c) 8 (step_signal c 8 (fun _ => rfl))) $$ H; iintro H
  iapply (keep (sigSt c) 9 (step_signal c 9 (fun _ => rfl))) $$ H; iintro H
  iapply (keep (sigSt c) 10 (step_signal c 10 (fun _ => rfl))) $$ H; iintro H
  iapply (keep (sigSt c) 11 (step_signal c 11 (fun _ => rfl))) $$ H; iintro H
  iapply (keep (sigSt c) 12 (step_signal c 12 (fun _ => rfl))) $$ H; iintro H
  iapply (keep (sigSt c) 13 (step_signal c 13 (fun _ => rfl))) $$ H; iintro H
  iapply (keep (sigSt c) 14 (step_signal c 14 (fun _ => rfl))) $$ H; iintro H
  iapply (keep (sigSt c) 15 (step_signal c 15 (fun _ => rfl))) $$ H; iintro H
  iapply (step_load c xM _) $$ HX; iintro HX
  iapply (step_load c wM _) $$ HY; iintro HY
  iapply (step_load c aM _) $$ HZ; iintro HZ
  rw [read_x, read_w]
  iapply (step_ret c _)
  iapply Hk
  isplitl [H]; · iexact H
  isplitl [HX]; · iexact HX
  isplitl [HY]; · iexact HY
  iexact HZ

/-- The transfers of the third piece: to devices 0 to 8. (The store of the product and the wait on the barrier come before them.) -/
theorem part3 {Q : _ → sProp 𝕄} (P : Vec F S1024x1024 .bf16) (hP : k0_pay2 P = A c)
    (Z : (cc0_scratch0 : Ref sig .tc).ty.Contents (Elt F)) :
    iprop(iprop(env A K ∗ sigSt (F := F) c 16) ∗ held c cc0_scratch0 Z ∗ cred (tallyAt (barCell c) () 15) ∗ atPos ER (barCell c) 0 ∅ 0 ∗ payIn c
        ∗ ((iprop(env A K ∗ sendSt A c 9) ∗ rowPts c c (A c) ∗ semVal (barCell c) 0) -∗ Q 9#32))
      ⊢ WP c (k0_part3 (F := F) xM (Memref.isWhole_whole _) wM (Memref.isWhole_whole _) oM (Memref.isWhole_whole _) aM (Memref.isWhole_whole _)
          lM (Memref.isWhole_whole _) cc0_scratch2 cc0_scratch3 c (place c) (SemArray.scalar (sig.barrier 0 rfl)) P) Q := by
  rw [k0_part3_eq_skeleton]; unfold k0_part3_skel
  iintro ⟨H, HZ, Hcr, Hat, Hpay, Hk⟩
  iapply (step_store c aM _) $$ HZ; iintro HZ
  rw [write_acc, hP]
  iapply (enter c) $$ [H HZ Hcr Hat Hpay]
  · isplitl [H]; · iexact H
    isplitl [HZ]; · iexact HZ
    isplitl [Hcr]; · iexact Hcr
    isplitl [Hat]; · iexact Hat
    iexact Hpay
  iintro ⟨H, Hown, Hz⟩
  iapply (keep (sendSt A c) 0 (step_send c 0 (fun _ => rfl))) $$ H; iintro H
  iapply (keep (sendSt A c) 1 (step_send c 1 (fun _ => rfl))) $$ H; iintro H
  iapply (keep (sendSt A c) 2 (step_send c 2 (fun _ => rfl))) $$ H; iintro H
  iapply (keep (sendSt A c) 3 (step_send c 3 (fun _ => rfl))) $$ H; iintro H
  iapply (keep (sendSt A c) 4 (step_send c 4 (fun _ => rfl))) $$ H; iintro H
  iapply (keep (sendSt A c) 5 (step_send c 5 (fun _ => rfl))) $$ H; iintro H
  iapply (keep (sendSt A c) 6 (step_send c 6 (fun _ => rfl))) $$ H; iintro H
  iapply (keep (sendSt A c) 7 (step_send c 7 (fun _ => rfl))) $$ H; iintro H
  iapply (keep (sendSt A c) 8 (step_send c 8 (fun _ => rfl))) $$ H; iintro H
  iapply (step_ret c _)
  iapply Hk
  isplitl [H]; · iexact H
  isplitl [Hown]; · iexact Hown
  iexact Hz

/-- The fourth piece: the transfers to devices 9 to 15, and the rows that stay read. -/
theorem part4 {Q : _ → sProp 𝕄} (w : BitVec 32) :
    iprop(iprop(env A K ∗ sendSt A c 9) ∗ rowPts c c (A c) ∗ ((iprop(env A K ∗ sendSt A c 16) ∗ rowPts c c (A c)) -∗ Q (k0_pay3 (rowsOf A c c))))
      ⊢ WP c (k0_part4 (F := F) xM (Memref.isWhole_whole _) wM (Memref.isWhole_whole _) oM (Memref.isWhole_whole _) aM (Memref.isWhole_whole _)
          lM (Memref.isWhole_whole _) cc0_scratch2 cc0_scratch3 c (place c) w) Q := by
  rw [k0_part4_eq_skeleton]; unfold k0_part4_skel
  iintro ⟨H, Hown, Hk⟩
  iapply (keep (sendSt A c) 9 (step_send c 9 (fun _ => rfl))) $$ H; iintro H
  iapply (keep (sendSt A c) 10 (step_send c 10 (fun _ => rfl))) $$ H; iintro H
  iapply (keep (sendSt A c) 11 (step_send c 11 (fun _ => rfl))) $$ H; iintro H
  iapply (keep (sendSt A c) 12 (step_send c 12 (fun _ => rfl))) $$ H; iintro H
  iapply (keep (sendSt A c) 13 (step_send c 13 (fun _ => rfl))) $$ H; iintro H
  iapply (keep (sendSt A c) 14 (step_send c 14 (fun _ => rfl))) $$ H; iintro H
  iapply (keep (sendSt A c) 15 (step_send c 15 (fun _ => rfl))) $$ H; iintro H
  iapply (step_own c (own_off c)) $$ Hown; iintro Hown
  iapply (step_ret c _)
  iapply Hk
  isplitl [H]; · iexact H
  iexact Hown

/-- The fifth piece: the blocks in slots 0 to 3 awaited, slot 0 read. -/
theorem part5 {Q : _ → sProp 𝕄} :
    iprop(iprop(env A K ∗ recvSt A c 0) ∗ (iprop(env A K ∗ recvSt A c 4) -∗ Q (slotV A c 0)))
      ⊢ WP c (k0_part5 (F := F) xM (Memref.isWhole_whole _) wM (Memref.isWhole_whole _) oM (Memref.isWhole_whole _) aM (Memref.isWhole_whole _)
          lM (Memref.isWhole_whole _) cc0_scratch2 cc0_scratch3 (place c)) Q := by
  rw [k0_part5_eq_skeleton]; unfold k0_part5_skel
  iintro ⟨H, Hk⟩
  iapply (keep (recvSt A c) 0 (step_recv c 0)) $$ H; iintro H
  iapply (keep (recvSt A c) 1 (step_recv c 1)) $$ H; iintro H
  iapply (keep (recvSt A c) 2 (step_recv c 2)) $$ H; iintro H
  iapply (keep (recvSt A c) 3 (step_recv c 3)) $$ H; iintro H
  iapply (look c (4) (step_slot c 0 (by decide))) $$ H; iintro H
  iapply (step_ret c _)
  iapply Hk; iexact H

/-- The sixth piece: slots 1 to 3 read, 4 and 5 awaited; the first four added to the rows that stayed. -/
theorem part6 {Q : _ → sProp 𝕄} (v : FVec F S64x1024 .f32) :
    iprop(iprop(env A K ∗ recvSt A c 4) ∗ (iprop(env A K ∗ recvSt A c 6) -∗ Q (k0_pay4 v (slotV A c 0) (slotV A c 1) (slotV A c 2) (slotV A c 3))))
      ⊢ WP c (k0_part6 (F := F) xM (Memref.isWhole_whole _) wM (Memref.isWhole_whole _) oM (Memref.isWhole_whole _) aM (Memref.isWhole_whole _)
          lM (Memref.isWhole_whole _) cc0_scratch2 cc0_scratch3 (place c) v (slotV A c 0)) Q := by
  rw [k0_part6_eq_skeleton]; unfold k0_part6_skel
  iintro ⟨H, Hk⟩
  iapply (look c (4) (step_slot c 1 (by decide))) $$ H; iintro H
  iapply (look c (4) (step_slot c 2 (by decide))) $$ H; iintro H
  iapply (look c (4) (step_slot c 3 (by decide))) $$ H; iintro H
  iapply (keep (recvSt A c) 4 (step_recv c 4)) $$ H; iintro H
  iapply (keep (recvSt A c) 5 (step_recv c 5)) $$ H; iintro H
  iapply (step_ret c _)
  iapply Hk; iexact H

/-- The seventh piece: slots 6 and 7 awaited, 4 to 7 read and added. -/
theorem part7 {Q : _ → sProp 𝕄} (v : FVec F S64x1024 .f32) :
    iprop(iprop(env A K ∗ recvSt A c 6) ∗ (iprop(env A K ∗ recvSt A c 8) -∗ Q (k0_pay5 v (slotV A c 4) (slotV A c 5) (slotV A c 6) (slotV A c 7))))
      ⊢ WP c (k0_part7 (F := F) xM (Memref.isWhole_whole _) wM (Memref.isWhole_whole _) oM (Memref.isWhole_whole _) aM (Memref.isWhole_whole _)
          lM (Memref.isWhole_whole _) cc0_scratch2 cc0_scratch3 (place c) v) Q := by
  rw [k0_part7_eq_skeleton]; unfold k0_part7_skel
  iintro ⟨H, Hk⟩
  iapply (keep (recvSt A c) 6 (step_recv c 6)) $$ H; iintro H
  iapply (keep (recvSt A c) 7 (step_recv c 7)) $$ H; iintro H
  iapply (look c (8) (step_slot c 4 (by decide))) $$ H; iintro H
  iapply (look c (8) (step_slot c 5 (by decide))) $$ H; iintro H
  iapply (look c (8) (step_slot c 6 (by decide))) $$ H; iintro H
  iapply (look c (8) (step_slot c 7 (by decide))) $$ H; iintro H
  iapply (step_ret c _)
  iapply Hk; iexact H

/-- The eighth piece: slots 8 to 10 awaited. -/
theorem part8 {Q : _ → sProp 𝕄} :
    iprop(iprop(env A K ∗ recvSt A c 8) ∗ (iprop(env A K ∗ recvSt A c 11) -∗ Q ⟨⟩))
      ⊢ WP c (k0_part8 (F := F) xM (Memref.isWhole_whole _) wM (Memref.isWhole_whole _) oM (Memref.isWhole_whole _) aM (Memref.isWhole_whole _)
          lM (Memref.isWhole_whole _) cc0_scratch2 cc0_scratch3 (place c)) Q := by
  rw [k0_part8_eq_skeleton]; unfold k0_part8_skel
  iintro ⟨H, Hk⟩
  iapply (keep (recvSt A c) 8 (step_recv c 8)) $$ H; iintro H
  iapply (keep (recvSt A c) 9 (step_recv c 9)) $$ H; iintro H
  iapply (keep (recvSt A c) 10 (step_recv c 10)) $$ H; iintro H
  iapply (step_ret c _)
  iapply Hk; iexact H

/-- The ninth piece: slot 11 awaited, 8 to 11 read and added, 12 awaited. -/
theorem part9 {Q : _ → sProp 𝕄} (v : FVec F S64x1024 .f32) :
    iprop(iprop(env A K ∗ recvSt A c 11) ∗ (iprop(env A K ∗ recvSt A c 13) -∗ Q (k0_pay6 v (slotV A c 8) (slotV A c 9) (slotV A c 10) (slotV A c 11))))
      ⊢ WP c (k0_part9 (F := F) xM (Memref.isWhole_whole _) wM (Memref.isWhole_whole _) oM (Memref.isWhole_whole _) aM (Memref.isWhole_whole _)
          lM (Memref.isWhole_whole _) cc0_scratch2 cc0_scratch3 (place c) v) Q := by
  rw [k0_part9_eq_skeleton]; unfold k0_part9_skel
  iintro ⟨H, Hk⟩
  iapply (keep (recvSt A c) 11 (step_recv c 11)) $$ H; iintro H
  iapply (look c (12) (step_slot c 8 (by decide))) $$ H; iintro H
  iapply (look c (12) (step_slot c 9 (by decide))) $$ H; iintro H
  iapply (look c (12) (step_slot c 10 (by decide))) $$ H; iintro H
  iapply (look c (12) (step_slot c 11 (by decide))) $$ H; iintro H
  iapply (keep (recvSt A c) 12 (step_recv c 12)) $$ H; iintro H
  iapply (step_ret c _)
  iapply Hk; iexact H

/-- The tenth piece: slots 13 and 14 awaited, 12 to 14 read; the sum's half and the tangent's argument. -/
theorem part10 {Q : _ → sProp 𝕄} (v : FVec F S64x1024 .f32) :
    iprop(iprop(env A K ∗ recvSt A c 13) ∗ (iprop(env A K ∗ recvSt A c 15) -∗ Q ⟨k0_pay8 v (slotV A c 12) (slotV A c 13) (slotV A c 14), k0_pay9 v (slotV A c 12) (slotV A c 13) (slotV A c 14)⟩))
      ⊢ WP c (k0_part10 (F := F) xM (Memref.isWhole_whole _) wM (Memref.isWhole_whole _) oM (Memref.isWhole_whole _) aM (Memref.isWhole_whole _)
          lM (Memref.isWhole_whole _) cc0_scratch2 cc0_scratch3 (place c) v) Q := by
  rw [k0_part10_eq_skeleton]; unfold k0_part10_skel
  iintro ⟨H, Hk⟩
  iapply (keep (recvSt A c) 13 (step_recv c 13)) $$ H; iintro H
  iapply (look c (14) (step_slot c 12 (by decide))) $$ H; iintro H
  iapply (look c (14) (step_slot c 13 (by decide))) $$ H; iintro H
  iapply (keep (recvSt A c) 14 (step_recv c 14)) $$ H; iintro H
  iapply (look c (15) (step_slot c 14 (by decide))) $$ H; iintro H
  iapply (step_ret c _)
  iapply Hk; iexact H

/-- The eleventh piece: the result stored, and the blocks sent to devices 0 to 7 awaited. -/
theorem part11 {Q : _ → sProp 𝕄} (v v' : FVec F S64x1024 .f32) (Z : (cc0_stg2_0 : Ref sig .tc).ty.Contents (Elt F)) :
    iprop(iprop(env A K ∗ backSt A c 0) ∗ held c cc0_stg2_0 Z ∗ ((iprop(env A K ∗ backSt A c 8) ∗ held c cc0_stg2_0 (k0_pay10 v v')) -∗ Q (Scalar.extui (Scalar.cmpi .ne (place c) 8#32))))
      ⊢ WP c (k0_part11 (F := F) xM (Memref.isWhole_whole _) wM (Memref.isWhole_whole _) oM (Memref.isWhole_whole _) aM (Memref.isWhole_whole _)
          lM (Memref.isWhole_whole _) cc0_scratch2 cc0_scratch3 (place c) v v') Q := by
  rw [k0_part11_eq_skeleton]; unfold k0_part11_skel
  iintro ⟨H, HZ, Hk⟩
  iapply (step_load c oM _) $$ HZ; iintro HZ
  iapply (step_store c oM _) $$ HZ; iintro HZ
  rw [write_out]
  iapply (keep (backSt A c) 0 (step_back c 0)) $$ H; iintro H
  iapply (keep (backSt A c) 1 (step_back c 1)) $$ H; iintro H
  iapply (keep (backSt A c) 2 (step_back c 2)) $$ H; iintro H
  iapply (keep (backSt A c) 3 (step_back c 3)) $$ H; iintro H
  iapply (keep (backSt A c) 4 (step_back c 4)) $$ H; iintro H
  iapply (keep (backSt A c) 5 (step_back c 5)) $$ H; iintro H
  iapply (keep (backSt A c) 6 (step_back c 6)) $$ H; iintro H
  iapply (keep (backSt A c) 7 (step_back c 7)) $$ H; iintro H
  iapply (step_ret c _)
  iapply Hk
  isplitl [H]; · iexact H
  iexact HZ

/-! ## Between the phases -/

omit [FloatOps F] in
/-- With every transfer under way nothing is owed, and the credits of the send cells are at hand. -/
theorem sendSt_end : sendSt A c 16 ⊢ iprop(owe (F := F) c 0 ∗ bigSep (Finset.univ.erase c) fun b : Dev nD => cred (tallyAt (sendCell c b) () N)) := by
  unfold sendSt
  rw [owedFrom_end, stage_full, Finset.filter_ne']

omit [FloatOps F] in
/-- Before the first arrival is awaited. -/
theorem recvSt_zero :
    iprop(owe (F := F) c 0 ∗ bigSep Finset.univ fun q : Fin 15 => iprop(cred (tallyAt (recvCell c q) () N) ∗ atPos ER (recvCell c q) 0 ∅ 0)) ⊢ recvSt A c 0 := by
  unfold recvSt
  rw [stage_zero, Finset.filter_true]

omit [FloatOps F] in
/-- A slot that has landed is a slot. -/
theorem landed_any (q : Fin 15) : landed A c q ⊢ slotAny (F := F) c q := by
  unfold landed slotAny
  iintro ⟨%f, -, H⟩
  iexists f; iexact H

omit [FloatOps F] in
/-- After the last arrival: the landing buffer is whole, at some contents, and every receive counter is at zero. -/
theorem recvSt_end :
    recvSt A c 15 ⊢ iprop(owe (F := F) c 0 ∗ (bigSep Finset.univ fun q : Fin 15 => slotAny (F := F) c q)
      ∗ bigSep Finset.univ fun q : Fin 15 => semVal (recvCell c q) 0) := by
  have h : (bigSep Finset.univ fun q : Fin 15 => landed A c q) ⊢ (bigSep Finset.univ fun q : Fin 15 => slotAny (F := F) c q) :=
    bigSep_mono fun q _ => landed_any c q
  unfold recvSt
  rw [stage_full, Finset.filter_true, bigSep_sep']
  iintro ⟨HO, HL, HZ⟩
  isplitl [HO]; · iexact HO
  isplitl [HL]; · iapply h; iexact HL
  iexact HZ

omit [FloatOps F] in
/-- Before the first block is awaited back. -/
theorem backSt_zero :
    iprop(owe (F := F) c 0 ∗ (bigSep (Finset.univ.erase c) fun b : Dev nD => cred (tallyAt (sendCell c b) () N))
      ∗ bigSep (Finset.univ.erase c) fun b : Dev nD => atPos ER (sendCell c b) 0 ∅ 0) ⊢ backSt A c 0 := by
  unfold backSt
  rw [stage_zero, Finset.filter_ne', bigSep_sep']

omit [FloatOps F] in
/-- With every block back, the product is whole again, and the send counters are at zero. -/
theorem backSt_end :
    iprop(backSt A c 16 ∗ rowPts c c (A c) ∗ semVal (sendCell c c) 0)
      ⊢ iprop(owe (F := F) c 0 ∗ held c cc0_scratch0 (A c) ∗ bigSep Finset.univ fun b : Dev nD => semVal (sendCell c b) 0) := by
  have h : (bigSep Finset.univ fun b : Dev nD => (semVal (sendCell c b) 0 : sProp 𝕄))
      = iprop(semVal (sendCell c c) 0 ∗ bigSep (Finset.univ.erase c) fun b : Dev nD => semVal (sendCell c b) 0) := bigSep_univ_split c
  unfold backSt
  rw [stage_full, Finset.filter_ne', bigSep_sep', rows_own, h]
  iintro ⟨⟨HO, HR, HZ⟩, Hown, Hz⟩
  isplitl [HO]; · iexact HO
  isplitl [HR Hown]
  · isplitl [Hown]; · iexact Hown
    iexact HR
  isplitl [Hz]; · iexact Hz
  iexact HZ

/-- The send cell a device never uses is closed at zero. -/
theorem step_shut {α : Type} {Q : α → sProp 𝕄} {e : Prog (TpuEff nD τ sig (Elt F) Λ₀ .tc) α} :
    iprop(env A K ∗ atPos ER (sendCell c c) 0 ∅ 0) ⊢ iprop((semVal (sendCell c c) 0 -∗ WP c e Q) -∗ WP c e Q) := by
  unfold WP
  iintro ⟨#HE, Hat⟩ Hk
  imod (Rounds.cell_close ER (Rd A) (Set.mem_univ (K (c, .inl (.inl c)))) (fun h => h) (R := 0)
    (fun r _ => r.casesOn (duties_send_self A c) fun r => duties_later A (sendCell c c) (r + 1) (Nat.succ_pos r))) $$ [Hat] with Hz
  · isplitr; · iapply (env_inv A K (c, .inl (.inl c))); iexact HE
    iexact Hat
  iapply Hk; iexact Hz

/-! ## The whole body -/

/-- The rows of device `c`'s result that the slots' blocks, added in slot order to the rows that stayed, give. -/
noncomputable def sum4 (A : Dev nD → (cc0_scratch0 : Ref sig .tc).ty.Contents (Elt F)) (c : Dev nD) : FVec F S64x1024 .f32 :=
  k0_pay4 (k0_pay3 (rowsOf A c c)) (slotV A c 0) (slotV A c 1) (slotV A c 2) (slotV A c 3)
noncomputable def sum8 (A : Dev nD → (cc0_scratch0 : Ref sig .tc).ty.Contents (Elt F)) (c : Dev nD) : FVec F S64x1024 .f32 :=
  k0_pay5 (sum4 A c) (slotV A c 4) (slotV A c 5) (slotV A c 6) (slotV A c 7)
noncomputable def sum12 (A : Dev nD → (cc0_scratch0 : Ref sig .tc).ty.Contents (Elt F)) (c : Dev nD) : FVec F S64x1024 .f32 :=
  k0_pay6 (sum8 A c) (slotV A c 8) (slotV A c 9) (slotV A c 10) (slotV A c 11)
/-- What device `c` stores: the activation of the full sum. -/
noncomputable def result (A : Dev nD → (cc0_scratch0 : Ref sig .tc).ty.Contents (Elt F)) (c : Dev nD) : FVec F S64x1024 .f32 :=
  k0_pay10 (k0_pay8 (sum12 A c) (slotV A c 12) (slotV A c 13) (slotV A c 14)) (k0_pay9 (sum12 A c) (slotV A c 12) (slotV A c 13) (slotV A c 14))

/-- What the body starts from. -/
noncomputable def bodyIn (A : Dev nD → (cc0_scratch0 : Ref sig .tc).ty.Contents (Elt F)) (K : Dev nD × KI → ℕ) (c : Dev nD) (X : (cc0_stg0_0 : Ref sig .tc).ty.Contents (Elt F)) (Y : (cc0_stg1_0 : Ref sig .tc).ty.Contents (Elt F))
    (O : (cc0_stg2_0 : Ref sig .tc).ty.Contents (Elt F)) (Z : (cc0_scratch0 : Ref sig .tc).ty.Contents (Elt F)) : sProp 𝕄 :=
  iprop(iprop(env A K ∗ sigSt (F := F) c 0) ∗ held c cc0_stg0_0 X ∗ held c cc0_stg1_0 Y ∗ held c cc0_stg2_0 O ∗ held c cc0_scratch0 Z
    ∗ cred (tallyAt (barCell c) () 15) ∗ atPos ER (barCell c) 0 ∅ 0 ∗ payIn c
    ∗ (bigSep Finset.univ fun q : Fin 15 => iprop(cred (tallyAt (recvCell c q) () N) ∗ atPos ER (recvCell c q) 0 ∅ 0))
    ∗ bigSep Finset.univ fun b : Dev nD => atPos ER (sendCell c b) 0 ∅ 0)

/-- What the body ends with. -/
noncomputable def bodyOut (A : Dev nD → (cc0_scratch0 : Ref sig .tc).ty.Contents (Elt F)) (c : Dev nD) (X : (cc0_stg0_0 : Ref sig .tc).ty.Contents (Elt F)) (Y : (cc0_stg1_0 : Ref sig .tc).ty.Contents (Elt F)) : sProp 𝕄 :=
  iprop(owe (F := F) c 0 ∗ held c cc0_stg0_0 X ∗ held c cc0_stg1_0 Y ∗ held c cc0_stg2_0 (result A c)
    ∗ (∃ g, held c cc0_scratch0 g) ∗ (∃ g, held c cc0_scratch1 g)
    ∗ semVal (barCell c) 0 ∗ (bigSep Finset.univ fun b : Dev nD => semVal (sendCell c b) 0) ∗ bigSep Finset.univ fun q : Fin 15 => semVal (recvCell c q) 0)

/-- The body, run from `bodyIn` to `bodyOut`, its product being `A c`. -/
theorem body {Q : PUnit → sProp 𝕄} (X : (cc0_stg0_0 : Ref sig .tc).ty.Contents (Elt F)) (Y : (cc0_stg1_0 : Ref sig .tc).ty.Contents (Elt F))
    (O : (cc0_stg2_0 : Ref sig .tc).ty.Contents (Elt F)) (Z : (cc0_scratch0 : Ref sig .tc).ty.Contents (Elt F)) (L₀ : (cc0_scratch1 : Ref sig .tc).ty.Contents (Elt F))
    (hA : k0_pay2 (k0_pay1 X Y) = A c) :
    iprop(bodyIn A K c X Y O Z ∗ (bodyOut A c X Y -∗ Q ⟨⟩))
      ⊢ WP c (cc0_body (F := F) xM (Memref.isWhole_whole _) wM (Memref.isWhole_whole _) oM (Memref.isWhole_whole _) aM (Memref.isWhole_whole _)
          lM (Memref.isWhole_whole _) cc0_scratch2 cc0_scratch3) Q := by
  rw [cc0_body_eq_skeleton]; unfold cc0_body_skel bodyIn bodyOut
  have hs : (bigSep Finset.univ fun b : Dev nD => (atPos ER (sendCell c b) 0 ∅ 0 : sProp 𝕄))
      = iprop(atPos ER (sendCell c c) 0 ∅ 0 ∗ bigSep (Finset.univ.erase c) fun b : Dev nD => atPos ER (sendCell c b) 0 ∅ 0) := bigSep_univ_split c
  rw [hs]
  iintro ⟨⟨⟨#HE, H⟩, HX, HY, HO, HZ, Hcr, Hat, Hpay, Hrecv, Hself, Hsend⟩, Hk⟩
  iapply (step_shut (A := A) (K := K) c) $$ [Hself]
  · isplitr; · iexact HE
    iexact Hself
  iintro Hself
  iapply (step_bind c _ _)
  iapply (part1 (A := A) (K := K) c)
  isplitl [H]
  · isplitr; · iexact HE
    iexact H
  iintro H
  iapply (step_bind c _ _)
  iapply (part2 (A := A) (K := K) c X Y Z)
  isplitl [H]; · iexact H
  isplitl [HX]; · iexact HX
  isplitl [HY]; · iexact HY
  isplitl [HZ]; · iexact HZ
  iintro ⟨H, HX, HY, HZ⟩
  iapply (step_bind c _ _)
  iapply (part3 (A := A) (K := K) c _ hA Z)
  isplitl [H]; · iexact H
  isplitl [HZ]; · iexact HZ
  isplitl [Hcr]; · iexact Hcr
  isplitl [Hat]; · iexact Hat
  isplitl [Hpay]; · iexact Hpay
  iintro ⟨H, Hown, Hzb⟩
  iapply (step_bind c _ _)
  iapply (part4 (A := A) (K := K) c _)
  isplitl [H]; · iexact H
  isplitl [Hown]; · iexact Hown
  iintro ⟨⟨-, H⟩, Hown⟩
  ihave Hs := (sendSt_end (A := A) c) $$ H
  icases Hs with ⟨Howe, Hcs⟩
  ihave H := (recvSt_zero (A := A) c) $$ [Howe Hrecv]
  · isplitl [Howe]; · iexact Howe
    iexact Hrecv
  iapply (step_bind c _ _)
  iapply (part5 (A := A) (K := K) c)
  isplitl [H]
  · isplitr; · iexact HE
    iexact H
  iintro H
  iapply (step_bind c _ _)
  iapply (part6 (A := A) (K := K) c _)
  isplitl [H]; · iexact H
  iintro H
  iapply (step_bind c _ _)
  iapply (part7 (A := A) (K := K) c _)
  isplitl [H]; · iexact H
  iintro H
  iapply (step_bind c _ _)
  iapply (part8 (A := A) (K := K) c)
  isplitl [H]; · iexact H
  iintro H
  iapply (step_bind c _ _)
  iapply (part9 (A := A) (K := K) c _)
  isplitl [H]; · iexact H
  iintro H
  iapply (step_bind c _ _)
  iapply (part10 (A := A) (K := K) c _)
  isplitl [H]; · iexact H
  iintro H
  icases H with ⟨-, H⟩
  ihave Hr := (recvSt_end (A := A) c) $$ H
  icases Hr with ⟨Howe, Hslots, Hzr⟩
  ihave H := (backSt_zero (A := A) c) $$ [Howe Hcs Hsend]
  · isplitl [Howe]; · iexact Howe
    isplitl [Hcs]; · iexact Hcs
    iexact Hsend
  iapply (step_bind c _ _)
  iapply (part11 (A := A) (K := K) c _ _ O)
  isplitl [H]
  · isplitr; · iexact HE
    iexact H
  isplitl [HO]; · iexact HO
  iintro ⟨H, HO⟩
  iapply (keep (backSt A c) 8 (step_back c 8)) $$ H; iintro H
  iapply (keep (backSt A c) 9 (step_back c 9)) $$ H; iintro H
  iapply (keep (backSt A c) 10 (step_back c 10)) $$ H; iintro H
  iapply (keep (backSt A c) 11 (step_back c 11)) $$ H; iintro H
  iapply (keep (backSt A c) 12 (step_back c 12)) $$ H; iintro H
  iapply (keep (backSt A c) 13 (step_back c 13)) $$ H; iintro H
  iapply (keep (backSt A c) 14 (step_back c 14)) $$ H; iintro H
  iapply (keep (backSt A c) 15 (step_back c 15)) $$ H; iintro H
  iapply (step_ret c _)
  iapply Hk
  icases H with ⟨-, H⟩
  ihave Hb := (backSt_end (A := A) c) $$ [H Hown Hself]
  · isplitl [H]; · iexact H
    isplitl [Hown]; · iexact Hown
    iexact Hself
  icases Hb with ⟨Howe, HZ, Hzs⟩
  isplitl [Howe]; · iexact Howe
  isplitl [HX]; · iexact HX
  isplitl [HY]; · iexact HY
  isplitl [HO]; · iexact HO
  isplitl [HZ]; · iexists _; iexact HZ
  isplitl [Hslots]; · iapply (slots_join c L₀); iexact Hslots
  isplitl [Hzb]; · iexact Hzb
  isplitl [Hzs]; · iexact Hzs
  iexact Hzr

end Cert.Scatter

end
-- ==== Proof.Deal.lean ====
/-
  The launch's deal: the cells opened at round 0, the tokens minted in the hands of the devices that pay them, and the
  launch's credits counted.
-/
module

public import proofs.«01_k».proof.Proof.Body

@[expose] public section

noncomputable section

namespace Cert.Scatter

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

set_option maxRecDepth 4096

variable {F : FTy → Type} [FloatOps F]

local notation "𝕄" => MT nD τ sig Unit (Elt F) ℕ UU ℕ

variable (A : Dev nD → (cc0_scratch0 : Ref sig .tc).ty.Contents (Elt F))

/-! ## The cells and the tokens -/

theorem ownSemFacts : Pipeline.OwnSemFacts cfg0.spec osem := by decide

theorem csem_injective : Function.Injective csem := by decide

theorem kcell_injective : Function.Injective (kcell : Dev nD × KI → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- All cells. -/
def allCells : Finset (GSem nD τ sig) := Finset.univ.map ⟨kcell, kcell_injective⟩

/-- The tokens device `c` holds for device `d`: to signal its barrier, and for the transfer to it, at the sending and the
    receiving end. (Those for `d = c` are not used.) -/
abbrev tokOf (x : Dev nD × Dev nD × Fin 3) : GSem nD τ sig × ℕ × Dev nD := match x.2.2 with
  | 0 => (barCell x.2.1, 0, x.1) | 1 => (sendCell x.1 x.2.1, 0, x.1) | 2 => (recvCell x.2.1 (sq x.1 x.2.1), 0, x.1)

theorem tokOf_injective : Function.Injective tokOf := by
  rintro ⟨c, d, j⟩ ⟨c', d', j'⟩ h
  have h0 : c = c' := by
    have := congrArg (fun x : GSem nD τ sig × ℕ × Dev nD => x.2.2) h
    fin_cases j <;> fin_cases j' <;> exact this
  subst h0
  have hd : (tokOf (c, d, j)).1.1.1 = (tokOf (c, d', j')).1.1.1 := congrArg (fun x : GSem nD τ sig × ℕ × Dev nD => x.1.1.1) h
  have hs : (tokOf (c, d, j)).1.2 = (tokOf (c, d', j')).1.2 := congrArg (fun x : GSem nD τ sig × ℕ × Dev nD => x.1.2) h
  have hmix (b : Dev nD) (q : Fin 15) : sendS b ≠ recvS q := fun e => recvS_not_lt q (e ▸ sendS_lt b)
  fin_cases j <;> fin_cases j'
  · have hd' : d = d' := hd
    rw [hd']
  · cases hs
  · cases hs
  · cases hs
  · have e : sendS d = sendS d' := SemLoc.dma.inj hs
    have e' : d = d' := by rw [← rowIx_sendS d, ← rowIx_sendS d', e]
    rw [e']
  · exact absurd (SemLoc.dma.inj hs) (hmix _ _)
  · cases hs
  · exact absurd (SemLoc.dma.inj hs).symm (hmix _ _)
  · have hd' : d = d' := hd
    rw [hd']

/-- All tokens. -/
def allToks : Finset (GSem nD τ sig × ℕ × Dev nD) := Finset.univ.map ⟨tokOf, tokOf_injective⟩

/-- The launch's element: the staging pipeline's beside this kernel's. -/
def u₀ : UU :=
  (initOf (Pipeline.cells cfgs cellOf_inj) (Pipeline.launchToks cfgs cellOf_inj), initOf allCells allToks)

/-- The tokens in device `c`'s hands. -/
def toks (c : Dev nD) : sProp 𝕄 :=
  bigSep Finset.univ fun d : Dev nD => iprop(dutyTok ER (barCell d) 0 c ∗ dutyTok ER (sendCell c d) 0 c ∗ dutyTok ER (recvCell d (sq c d)) 0 c)

/-- What the launch deals device `c`. -/
def G (c : Dev nD) : sProp 𝕄 :=
  iprop((bigSep Finset.univ fun k : KI => roundState ER (Rd A) (kcell (c, k)) 0)
    ∗ (bigSep Finset.univ fun k : KI => iprop(atPos ER (kcell (c, k)) 0 ∅ 0 ∗ reached ER (kcell (c, k)) 0)) ∗ toks c)

/-- The same with the cells open, at names that all devices know. -/
def ghost (K : Dev nD × KI → ℕ) (c : Dev nD) : sProp 𝕄 :=
  iprop(records A K ∗ (bigSep Finset.univ fun k : KI => atPos ER (kcell (c, k)) 0 ∅ 0) ∗ toks c)
def G' (c : Dev nD) : sProp 𝕄 := iprop(∃ K, ghost A K c)

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

omit [FloatOps F] in
/-- A family over a device's cells is the family over its send cells, that over its receive cells, and the barrier's. -/
theorem bigSep_KI (Φ : KI → sProp 𝕄) :
    bigSep Finset.univ Φ = iprop(((bigSep Finset.univ fun b => Φ (.inl (.inl b))) ∗ bigSep Finset.univ fun q => Φ (.inl (.inr q))) ∗ Φ (.inr ())) := by
  have h : bigSep Finset.univ Φ = iprop((bigSep Finset.univ fun k => Φ (.inl k)) ∗ bigSep Finset.univ fun u => Φ (.inr u)) := bigSep_univ_sum Φ
  have h' : (bigSep Finset.univ fun k => Φ (.inl k)) = iprop((bigSep Finset.univ fun b => Φ (.inl (.inl b))) ∗ bigSep Finset.univ fun q => Φ (.inl (.inr q))) :=
    bigSep_univ_sum fun k => Φ (.inl k)
  have hu : (bigSep Finset.univ fun u : Unit => Φ (.inr u)) = Φ (.inr ()) := bigSep_singleton
  rw [h, h', hu]

omit [FloatOps F] in
/-- The launch's element of this kernel, dealt out. -/
theorem fund_cells : BI.own (ER (initOf allCells allToks)) ⊢ (|==> bigSep Finset.univ (G A) : sProp 𝕄) := by
  have hX (Φ : GSem nD τ sig → sProp 𝕄) : bigSep allCells Φ = bigSep Finset.univ fun c : Dev nD => bigSep Finset.univ fun k : KI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks; rw [bigSep_univ_prod]
    exact bigSep_congr fun d _ => by rw [bigSep_fin3]; rfl
  iintro HX
  imod (Rounds.fund ER (Rd A) allCells allToks) $$ HX with ⟨Hst, Hr, Hat, Htok⟩
  imodintro
  ihave Hst' := (Entails.of_eq (hX fun g => roundState ER (Rd A) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

omit [FloatOps F] in
/-- The barrier semaphore is the one semaphore not scoped to the launch. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The kernel's own semaphores are its send and its receive semaphores. -/
theorem ownSems0_eq (c : Dev nD) :
    (Pipeline.ownSems0 (Ix := Unit) (Name := ℕ) (U := UU) (Lvl := ℕ) (Val := Elt F) (τ := τ) osem c : sProp 𝕄)
      = iprop((bigSep Finset.univ fun b : Dev nD => semVal (sendCell c b) 0) ∗ bigSep Finset.univ fun q : Fin 15 => semVal (recvCell c q) 0) :=
  bigSep_univ_sum fun k : Dev nD ⊕ Fin 15 => semVal ((c : Thread nD τ), osem k) 0

omit [FloatOps F] in
theorem sems0_eq (c : Dev nD) :
    iprop(Pipeline.ownSems0 (Ix := Unit) (Name := ℕ) (U := UU) (Lvl := ℕ) (Val := Elt F) (τ := τ) osem c ∗ unscopedSems0 c)
      = (bigSep Finset.univ fun k : KI => semVal (kcell (c, k)) 0 : sProp 𝕄) := by
  rw [ownSems0_eq, unscopedSems0_eq, bigSep_KI]; rfl

omit [FloatOps F] in
/-- Device `c`'s cells open. -/
theorem core_alloc (c : Dev nD) :
    iprop(Pipeline.ownSems0 (Ix := Unit) (Name := ℕ) (U := UU) (Lvl := ℕ) (Val := Elt F) (τ := τ) osem c ∗ unscopedSems0 c ∗ G A c)
      ⊢ |={Set.univ}=> iprop((bigSep Finset.univ fun k => iprop(∃ κ : ℕ, cellInv ER (Rd A) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (Entails.of_eq (sems0_eq (F := F) c)) $$ [Hos Hus]
  · isplitl [Hos]; · iexact Hos
    iexact Hus
  imod (show iprop((bigSep Finset.univ fun k : KI => semVal (kcell (c, k)) 0) ∗ bigSep Finset.univ fun k : KI => roundState ER (Rd A) (kcell (c, k)) 0)
      ⊢ (|={Set.univ}=> bigSep Finset.univ fun k => iprop(∃ κ : ℕ, cellInv ER (Rd A) κ (kcell (c, k))) : sProp 𝕄) from by
        rw [← bigSep_sep']
        exact (bigSep_mono fun k _ => (Rounds.body_intro ER (Rd A) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

omit [FloatOps F] in
/-- A persistent fact goes to every member of a family. -/
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- The names of all devices' cells made known to each. -/
theorem regroup :
    (bigSep Finset.univ fun c : Dev nD => iprop((bigSep Finset.univ fun k => iprop(∃ κ : ℕ, cellInv ER (Rd A) κ (kcell (c, k))))
          ∗ (bigSep Finset.univ fun k => iprop(atPos ER (kcell (c, k)) 0 ∅ 0 ∗ reached ER (kcell (c, k)) 0)) ∗ toks c) : sProp 𝕄)
      ⊢ bigSep Finset.univ (G' A) := by
  rw [bigSep_sep', bigSep_sep', ← bigSep_univ_prod (fun ck : Dev nD × KI => iprop(∃ κ : ℕ, cellInv ER (Rd A) κ (kcell ck))),
    bigSep_congr (s := Finset.univ) (fun (c : Dev nD) _ => bigSep_sep' Finset.univ (fun k : KI => (atPos ER (kcell (c, k)) 0 ∅ 0 : sProp 𝕄)) (fun k => reached ER (kcell (c, k)) 0)),
    bigSep_sep', ← bigSep_univ_prod (fun ck : Dev nD × KI => (reached ER (kcell ck) 0 : sProp 𝕄))]
  iintro ⟨HI, ⟨Hat, #HR⟩, Htok⟩
  ihave HK := (BI.bigSep_exists_pi Finset.univ (fun (ck : Dev nD × KI) (κ : ℕ) => (cellInv ER (Rd A) κ (kcell ck) : sProp 𝕄))) $$ HI
  icases HK with ⟨%K, #HI⟩
  have hg (c : Dev nD) : iprop(records A K ∗ iprop((bigSep Finset.univ fun k : KI => atPos ER (kcell (c, k)) 0 ∅ 0) ∗ toks c)) ⊢ G' A c := by
    unfold G' ghost
    iintro H
    iexists K; iexact H
  iapply (bigSep_with (R := records A K) fun c _ => hg c)
  isplitr
  · unfold records; isplitl; · iexact HI
    iexact HR
  iapply (Entails.of_eq (bigSep_sep' Finset.univ (fun c : Dev nD => bigSep Finset.univ fun k : KI => (atPos ER (kcell (c, k)) 0 ∅ 0 : sProp 𝕄)) toks).symm)
  isplitl [Hat]; · iexact Hat
  iexact Htok

omit [FloatOps F] in
/-- The launch's global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G A c) : sProp 𝕄)
    ⊢ |={Set.univ}=> bigSep Finset.univ (G' A) :=
  ((bigSep_mono fun c _ => core_alloc A c).trans (bigSep_fupd _ _)).trans (BI.fupd_mono (regroup A))

/-! ## The launch's credits -/

theorem recvCell_eq {b c : Dev nD} {p q : Fin 15} : recvCell b p = recvCell c q ↔ b = c ∧ p = q := by
  constructor
  · intro h
    have h1 : b = c := congrArg (fun g : GSem nD τ sig => g.1.1) h
    have h2 : recvS p = recvS q := SemLoc.dma.inj (congrArg Prod.snd h)
    exact ⟨h1, by rw [← slotIx_recvS p, ← slotIx_recvS q, h2]⟩
  · rintro ⟨rfl, rfl⟩; rfl
theorem barCell_eq {b c : Dev nD} : barCell b = barCell c ↔ b = c :=
  ⟨fun h => congrArg (fun g : GSem nD τ sig => g.1.1) h, fun h => h ▸ rfl⟩
theorem bar_ne_recv (b c : Dev nD) (q : Fin 15) : barCell b ≠ recvCell c q := fun h => by cases congrArg Prod.snd h

/-- Every other device owes device `c`'s barrier one unit; -/
theorem owed_bar (d c : Dev nD) : O₀ d (barCell c) () = if d ≠ c then 1 else 0 := by
  unfold O₀
  rw [Pi.add_apply, Finsupp.add_apply, owedFrom_apply, owedFrom_apply,
    Finset.sum_eq_zero fun b _ => by
      split
      · exact (tallyAt_apply _ _ _ _ _).trans (if_neg fun h => bar_ne_recv _ _ _ h.1)
      · rfl,
    zero_add, Finset.sum_eq_single c]
  · refine if_congr ⟨fun h => h.1.symm, fun h => ⟨h.symm, Nat.zero_le _⟩⟩ ?_ rfl
    rw [tallyAt_apply, if_pos ⟨rfl, rfl⟩]
  · intro b _ hb
    split
    · exact (tallyAt_apply _ _ _ _ _).trans (if_neg fun h => hb (barCell_eq.mp h.1).symm)
    · rfl
  · exact fun h => absurd (Finset.mem_univ c) h

/-- the one device that writes slot `q` owes device `c`'s receive cell `q` one transfer. -/
theorem owed_recv (d c : Dev nD) (q : Fin 15) : O₀ d (recvCell c q) () = if d = snd c q then N else 0 := by
  unfold O₀
  rw [Pi.add_apply, Finsupp.add_apply, owedFrom_apply, owedFrom_apply,
    Finset.sum_eq_zero (f := fun b => if b ≠ d ∧ 0 ≤ b.val then owedBar b (recvCell c q) () else 0) fun b _ => by
      split
      · exact (tallyAt_apply _ _ _ _ _).trans (if_neg fun h => bar_ne_recv _ _ _ h.1.symm)
      · rfl,
    add_zero, Finset.sum_eq_single c]
  · by_cases hd : c = d
    · subst hd
      rw [if_neg (fun h => h.1 rfl), if_neg (snd_ne c q)]
    · rw [if_pos ⟨hd, Nat.zero_le _⟩, tallyAt_apply]
      refine if_congr ?_ rfl rfl
      rw [← sq_eq_iff c d q hd]
      exact ⟨fun h => (recvCell_eq.mp h.1).2.symm, fun h => ⟨recvCell_eq.mpr ⟨rfl, h.symm⟩, rfl⟩⟩
  · intro b _ hb
    split
    · exact (tallyAt_apply _ _ _ _ _).trans (if_neg fun h => hb (recvCell_eq.mp h.1).1.symm)
    · rfl
  · exact fun h => absurd (Finset.mem_univ c) h

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c : Dev nD) (q : Fin 15) :
    tallyOn (recvCell c q) (launchCredit (Pipeline.owing O₀) 0 (recvCell c q)) = (tallyAt (recvCell c q) () N : CellTallies nD τ sig Unit) := by
  unfold tallyAt; refine congrArg _ (Finsupp.ext fun u => ?_); cases u
  rw [Pipeline.launchCredit_owing, Finsupp.single_eq_same, Finset.sum_congr rfl fun d _ => owed_recv d c q,
    Finset.sum_ite_eq' Finset.univ (snd c q) fun _ => N, if_pos (Finset.mem_univ _)]

theorem recvLoc_injective : Function.Injective (fun q : Fin 15 => (SemLoc.dma (recvS q) : SemLoc sig)) := fun p q h => by
  rw [← slotIx_recvS p, ← slotIx_recvS q, SemLoc.dma.inj h]

omit [FloatOps F] in
/-- The launch's credits of device `c`: fifteen units of its barrier, one transfer of each receive cell. -/
theorem creds (c : Dev nD) :
    (Pipeline.launchCred O₀ c : sProp 𝕄) ⊢ iprop(cred (tallyAt (barCell c) () 15) ∗ bigSep Finset.univ fun q : Fin 15 => cred (tallyAt (recvCell c q) () N)) := by
  unfold Pipeline.launchCred
  rw [bigSep_univ_at _ (SemLoc.reg barS), launch_bar]
  refine sep_mono_right ?_
  have hsub : (Finset.univ.map ⟨fun q : Fin 15 => (SemLoc.dma (recvS q) : SemLoc sig), recvLoc_injective⟩) ⊆ Finset.univ.erase (SemLoc.reg barS) := by
    intro x hx
    obtain ⟨q, -, rfl⟩ := Finset.mem_map.mp hx
    exact Finset.mem_erase.mpr ⟨(fun h => by cases h), Finset.mem_univ _⟩
  refine (bigSep_subset hsub).trans ?_
  rw [bigSep_map]
  exact bigSep_mono fun q _ => by rw [← launch_recv]; exact BI.Entails.refl _

/-! ## The tokens and slots as the body takes them -/

omit [FloatOps F] in
/-- A device's tokens, those for itself left aside. -/
theorem toks_split (c : Dev nD) :
    (toks c : sProp 𝕄) ⊢ iprop((bigSep (Finset.univ.erase c) fun b : Dev nD => dutyTok ER (barCell b) 0 c) ∗ payIn c) := by
  unfold toks payIn
  rw [← bigSep_sep']
  exact bigSep_subset (Finset.erase_subset c Finset.univ)

omit [FloatOps F] in
/-- A slot at known contents is a slot. -/
theorem slotPts_any (c : Dev nD) (q : Fin 15) (f : (cc0_scratch1 : Ref sig .tc).ty.Contents (Elt F)) : (slotPts c q f : sProp 𝕄) ⊢ slotAny (F := F) c q := by
  unfold slotAny
  iintro H
  iexists f; iexact H

omit [FloatOps F] in
/-- A device's slots, told apart by the devices that write them. -/
theorem slots_by_writer (c : Dev nD) (f : (cc0_scratch1 : Ref sig .tc).ty.Contents (Elt F)) :
    held c cc0_scratch1 f ⊢ (bigSep (Finset.univ.erase c) fun b : Dev nD => slotAny (F := F) c (sq b c) : sProp 𝕄) := by
  have hinj : ∀ x ∈ Finset.univ.erase c, ∀ y ∈ Finset.univ.erase c, sq x c = sq y c → x = y := fun x hx y hy h => by
    rw [← snd_sq x c (Finset.ne_of_mem_erase hx).symm, ← snd_sq y c (Finset.ne_of_mem_erase hy).symm, h]
  have hre : bigSep Finset.univ (fun q : Fin 15 => (slotAny (F := F) c q : sProp 𝕄)) = bigSep (Finset.univ.erase c) fun b : Dev nD => slotAny (F := F) c (sq b c) := by
    rw [← sq_image c]; exact Finset.fold_image hinj
  have hany : (bigSep Finset.univ fun q : Fin 15 => (slotPts c q f : sProp 𝕄)) ⊢ bigSep Finset.univ fun q : Fin 15 => slotAny (F := F) c q :=
    bigSep_mono fun q _ => slotPts_any c q f
  rw [slots_eq, ← hre]
  exact hany

omit [FloatOps F] in
/-- Before the first signal: every signal and every transfer owed, the tokens of the signals and the slots at hand. -/
theorem sigSt_zero (c : Dev nD) (f : (cc0_scratch1 : Ref sig .tc).ty.Contents (Elt F)) :
    iprop(owe (F := F) c (O₀ c) ∗ (bigSep (Finset.univ.erase c) fun b : Dev nD => dutyTok ER (barCell b) 0 c) ∗ held c cc0_scratch1 f) ⊢ sigSt (F := F) c 0 := by
  unfold sigSt
  rw [stage_zero, Finset.filter_ne', bigSep_sep']
  iintro ⟨HO, HT, HS⟩
  isplitl [HO]; · iexact HO
  isplitl [HT]; · iexact HT
  iapply (slots_by_writer c f); iexact HS

end Cert.Scatter

end
-- ==== Proof.Run.lean ====
/-
  The run of the kernel on the sixteen devices: from any memory with every counter at zero it ends, with the result of the
  body in every device's result array, the two inputs as they were, and every counter at zero again.
-/
module

public import proofs.«01_k».proof.Proof.Deal
public import Idealize.ShloMosaic.Lib.Pipeline.CollectiveSegs

@[expose] public section

noncomputable section

namespace Cert.Scatter

open Cert.KernelIdeal Cert.KernelIdeal.Gen

open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

set_option maxRecDepth 4096

variable {F : FTy → Type} [FloatOps F]

local notation "𝕄" => MT nD τ sig Unit (Elt F) ℕ UU ℕ

variable (m : (ℓ : Loc nD τ sig) → Buf (Elt F) ℓ) (ρ : Dev nD → PrngReg)

/-- The state at the start: any memory, every counter at zero. -/
def s₀ : MemSt nD τ sig (Elt F) := ⟨m, fun _ => 0, ρ⟩

/-- The columns of `x` and the rows of `w` that device `c` holds, as staged for the launch. -/
def xIn (c : Dev nD) : (cc0_stg0_0 : Ref sig .tc).ty.Contents (Elt F) :=
  (win0_0.blk t0_0).view.read (Elt F) ((s₀ m ρ).mem ((c : Thread nD τ).loc main_arg0))
def wIn (c : Dev nD) : (cc0_stg1_0 : Ref sig .tc).ty.Contents (Elt F) :=
  (win0_1.blk t0_0).view.read (Elt F) ((s₀ m ρ).mem ((c : Thread nD τ).loc main_arg1))
/-- Device `c`'s product. -/
def prod (c : Dev nD) : (cc0_scratch0 : Ref sig .tc).ty.Contents (Elt F) := k0_pay2 (k0_pay1 (xIn m ρ c) (wIn m ρ c))

/-- What device `c`'s body starts from beside its buffers. -/
def start (c : Dev nD) : sProp 𝕄 :=
  iprop(G' (prod m ρ) c ∗ (cred (tallyAt (barCell c) () 15) ∗ bigSep Finset.univ fun q : Fin 15 => cred (tallyAt (recvCell c q) () N)) ∗ levAts L lv)

def Φ₀ (c : Dev nD) : sProp 𝕄 := iprop(start m ρ c ∗ (∃ f, held c cc0_scratch0 f) ∗ (∃ f, held c cc0_scratch1 f))
/-- After the body: the two scratch buffers whole, at some contents, and every counter of the device at zero. -/
def Φ₁ (c : Dev nD) : sProp 𝕄 :=
  iprop((∃ f, held (F := F) c cc0_scratch0 f) ∗ (∃ f, held (F := F) c cc0_scratch1 f)
    ∗ semVal (barCell c) 0 ∗ (bigSep Finset.univ fun b : Dev nD => semVal (sendCell c b) 0) ∗ bigSep Finset.univ fun q : Fin 15 => semVal (recvCell c q) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m ρ c
    | ⟨1, _⟩ => wIn m ρ c
    | ⟨2, _⟩ => result (prod m ρ) c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem fetch_0 (t : Fin cfg0.N) : (cfg0.win (0 : Fin 3)).fetch t = true := by rw [fin_N0 t]; rfl
theorem fetch_1 (t : Fin cfg0.N) : (cfg0.win (1 : Fin 3)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ (F := F) c ∗ (dats m ρ 0 c).owesAt () t0_0.succ
    ∗ stg c cc0_stg0_0 (xIn m ρ c) ∗ stg c cc0_stg1_0 (wIn m ρ c) ∗ stg c cc0_stg2_0 (result (prod m ρ) c))

omit [FloatOps F] in
theorem atPos_split (c : Dev nD) :
    (bigSep Finset.univ fun k : KI => (atPos ER (kcell (c, k)) 0 ∅ 0 : sProp 𝕄))
      = iprop(((bigSep Finset.univ fun b : Dev nD => atPos ER (sendCell c b) 0 ∅ 0) ∗ bigSep Finset.univ fun q : Fin 15 => atPos ER (recvCell c q) 0 ∅ 0)
          ∗ atPos ER (barCell c) 0 ∅ 0) := bigSep_KI fun k => atPos ER (kcell (c, k)) 0 ∅ 0

/-- The body from what the launch hands it to what the launch takes back. -/
theorem sound (c : Dev nD) :
    bodyPre m ρ c ⊢ WP₀ c (cc0_body (F := F) xM (Memref.isWhole_whole _) wM (Memref.isWhole_whole _) oM (Memref.isWhole_whole _) aM (Memref.isWhole_whole _)
          lM (Memref.isWhole_whole _) cc0_scratch2 cc0_scratch3) (fun _ => bodyPost m ρ c) := by
  have hWP {e : Prog (TpuEff nD τ sig (Elt F) Λ₀ .tc) PUnit} {Q : PUnit → sProp 𝕄} : WP c e Q ⊢ WP₀ c e Q := by
    unfold WP; exact BI.Entails.refl _
  unfold bodyPre Φ₀ start G' ghost
  rw [atPos_split]
  iintro ⟨⟨⟨⟨%K, #HR, ⟨⟨HaS, HaV⟩, HaB⟩, Htok⟩, ⟨HcB, HcV⟩, #Hlev⟩, ⟨%fa, Ha⟩, ⟨%fl, Hl⟩⟩, Ho, ⟨%d0, %g0, %hg0, Hx⟩, ⟨%d1, %g1, %hg1, Hw⟩, ⟨%d2, %g2, %hg2, Hout⟩⟩
  have hx : g0 = xIn m ρ c := by rw [hg0]; unfold Dat.before; rw [if_pos (fetch_0 t0_0)]; rfl
  have hw : g1 = wIn m ρ c := by rw [hg1]; unfold Dat.before; rw [if_pos (fetch_1 t0_0)]; rfl
  subst hx hw
  unfold Dat.owesAt Pipeline.owesWithin
  icases Ho with ⟨%W, %hW, HO⟩
  rw [show (dats m ρ 0 c).owed t0_0.castSucc = O₀ c from rfl]
  ihave Htk := (toks_split (F := F) c) $$ Htok
  icases Htk with ⟨HtB, Hpay⟩
  iapply hWP
  iapply (body (A := prod m ρ) (K := K) c (xIn m ρ c) (wIn m ρ c) g2 fa fl rfl)
  isplitr []
  · unfold bodyIn env
    isplitl [HO HtB Hl]
    · isplitr
      · isplitr; · iexact HR
        iexact Hlev
      iapply (sigSt_zero c fl)
      unfold owe
      isplitl [HO]; · iexists W; iexact HO
      isplitl [HtB]; · iexact HtB
      iexact Hl
    isplitl [Hx]; · iexact Hx
    isplitl [Hw]; · iexact Hw
    isplitl [Hout]; · iexact Hout
    isplitl [Ha]; · iexact Ha
    isplitl [HcB]; · iexact HcB
    isplitl [HaB]; · iexact HaB
    isplitl [Hpay]; · iexact Hpay
    isplitl [HcV HaV]
    · rw [bigSep_sep']
      isplitl [HcV]; · iexact HcV
      iexact HaV
    iexact HaS
  unfold bodyOut bodyPost Φ₁ owe Dat.owesAt Pipeline.owesWithin
  rw [show (dats m ρ 0 c).owed t0_0.succ = 0 from rfl]
  iintro ⟨⟨%W', HO⟩, Hx, Hw, Hout, Ha, Hl, HzB, HzS, HzV⟩
  isplitl [Ha Hl HzB HzS HzV]
  · isplitl [Ha]; · iexact Ha
    isplitl [Hl]; · iexact Hl
    isplitl [HzB]; · iexact HzB
    isplitl [HzS]; · iexact HzS
    iexact HzV
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iexists _; isplitr; · (ipureintro; rfl)
  iexact Hout

/-- The launch's obligation on the body. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP₀ c (cc0_body (F := F) xM (Memref.isWhole_whole _) wM (Memref.isWhole_whole _) oM (Memref.isWhole_whole _) aM (Memref.isWhole_whole _)
          lM (Memref.isWhole_whole _) cc0_scratch2 cc0_scratch3) (fun _ => bodyPost m ρ c)
  exact sound m ρ c

theorem share_eq (c : Dev nD) (w : Fin cfg0.W) : (dats m ρ 0 c).share w = fullShare := by unfold Dat.share; split <;> rfl

omit [FloatOps F] in
theorem start_intro (A : Dev nD → (cc0_scratch0 : Ref sig .tc).ty.Contents (Elt F)) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' A c)
      ⊢ |={Set.univ}=> iprop(iprop(G' A c ∗ (cred (tallyAt (barCell c) () 15) ∗ bigSep Finset.univ fun q : Fin 15 => cred (tallyAt (recvCell c q) () N)) ∗ levAts L lv) ∗ emp) := by
  iintro ⟨-, Hlev, Hcr, -, HG⟩
  ihave Hc := (creds (F := F) c) $$ Hcr
  imodintro
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨Ha, Hl, HzB, HzS, HzV⟩
  isplitl [HzB]; · iexact HzB
  isplitl [HzS HzV]
  · isplitl [HzS]; · iexact HzS
    iexact HzV
  isplitl [Ha]; · iexact Ha
  iexact Hl

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What an array of device `c` holds after the run. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with every counter at zero, every weakly fair execution on the sixteen devices
    ends, with each device's arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (prod m ρ)) (G' := G' (prod m ρ)) (u₀ := u₀)
    (hu₀ := by
      unfold u₀
      iintro Hu
      ihave H := (ownU_pair _ _) $$ Hu
      icases H with ⟨HP, HX⟩
      imod (fund_cells (prod m ρ)) $$ HX with HG
      imodintro
      isplitl [HP]; · iexact HP
      iexact HG)
    (hglob := glob (prod m ρ))
    (hA := fun _ _ => rfl) (hpf := fun _ k => k.elim0)
    (X := start m ρ) (Y := fun c => unscopedSems0 c) (Z := fun _ => iprop(emp))
    (hX := start_intro m ρ (prod m ρ)) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

end Cert.Scatter

end
-- ==== Proof.Frames.lean ====
/-
  The three frame claims: the kernel as printed, the kernel at exact values, and the reference each run to the end,
  leave their arguments as they were, and end with every counter at zero.
-/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.Scatter

open Cert.KernelIdeal Cert.KernelIdeal.Gen

open Idealize.ShloMosaic
open Idealize.ShloMosaic.TcCoe
open Idealize.SL.Sem

section arrays

variable {F : FTy → Type} [FloatOps F] (m : (ℓ : Loc nD τ sig) → Buf (Elt F) ℓ) (ρ : Dev nD → PrngReg)

/-- The run leaves a device's part of `x` as it was. -/
theorem finalA_x (c : Dev nD) : finalA m ρ c (0 : Fin 3) = m ((c : Thread nD τ).loc main_arg0) :=
  (dats (F := F) m ρ 0 c).arrAt_in (0 : Fin 3) rfl _

/-- The run leaves a device's part of `w` as it was. -/
theorem finalA_w (c : Dev nD) : finalA m ρ c (1 : Fin 3) = m ((c : Thread nD τ).loc main_arg1) :=
  (dats (F := F) m ρ 0 c).arrAt_in (1 : Fin 3) rfl _

/-- The run ends with each device's two arguments as they were and every counter at zero. -/
theorem run_frame : θ_run defs (onTc (τ := τ) (main (F := F))) ⟨m, fun _ => 0, ρ⟩
    (fun r => (∀ c : Dev nD, r.2.mem (c.tc.loc main_arg0) = m (c.tc.loc main_arg0) ∧ r.2.mem (c.tc.loc main_arg1) = m (c.tc.loc main_arg1))
      ∧ r.2.sem = fun _ => 0) :=
  (θ_run defs _ _).mono (fun _ h => ⟨fun c => ⟨(h.1 c (0 : Fin 3)).trans (finalA_x m ρ c), (h.1 c (1 : Fin 3)).trans (finalA_w m ρ c)⟩, h.2⟩)
    (run_main m ρ)

end arrays

/-- The two printings of the kernel run the same body, -/
theorem defs₀_eq : Cert.KernelIdeal.defs₀ (F := Bits) = Cert.Kernel.defs₀ := by
  unfold Cert.KernelIdeal.defs₀ Cert.Kernel.defs₀
  refine congrArg Defs.onTc (funext fun l => funext fun a => ?_)
  match l, a with
  | 0, (t, s) => rfl
  | ⟨_ + 1, h⟩, _ => exact absurd h (Nat.not_lt.2 (Nat.le_add_left _ _))

/-- and have the same launch. -/
theorem defs_eq : Cert.KernelIdeal.defs (F := Bits) = Cert.Kernel.defs := congrArg (Pipeline.defs Cert.KernelIdeal.pcfgs) defs₀_eq

/-- The kernel as printed ends with its arguments unchanged and every counter at zero. -/
theorem frame_kernel : Cert.quiescent_Kernel := by
  intro m ρ _
  rw [← defs_eq]
  exact run_frame (F := Bits) m ρ

/-- So does the kernel at exact values, -/
theorem frame_ideal : Cert.quiescent_KernelIdeal := fun m ρ _ => run_frame (F := Ideal) m ρ

/-- and the reference, which has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Scatter

end
-- ==== Proof.Value.lean ====
/-
  The values, at exact arithmetic: a device's result is its block of rows of GELU of the product of the whole arrays.
  A device's product is one sixteenth of every dot product, the terms of its own columns of `x` and rows of `w`; the row
  block that a device adds up from all sixteen devices is therefore the block of the whole product.
-/
module

public import proofs.«01_k».proof.Proof.Frames
public import proofs.«01_k».proof.Proof.Gen.KernelIdeal.Points
public import Idealize.ShloMosaic.Lib.Layout
public import Idealize.ShloMosaic.Lib.MatmulPlain
public import Idealize.ShloMosaic.Lib.StackMember
public import Idealize.ShloMosaic.Lib.ValueIdx

@[expose] public section

noncomputable section

namespace Cert.Scatter

open Cert.KernelIdeal Cert.KernelIdeal.Gen

open Idealize.ShloMosaic Idealize.ShloMosaic.ValueIdx
open Idealize.ShloMosaic.TcCoe
open Idealize.ShloMosaic.Pipeline (Dat)
open Idealize.SL.Sem
open scoped BigOperators

/-! ### The sums -/

/-- Device `c`, then the devices that write slots 0, 1, … of device `c`: every device once. -/
def order (c : Dev nD) (k : Fin 16) : Dev nD := ⟨(c.val + 16 - k.val) % 16, Nat.mod_lt _ (by decide)⟩

theorem order_bijective (c : Dev nD) : Function.Bijective (order c) :=
  Finite.injective_iff_bijective.1 fun a b h => by
    have hc : c.val < 16 := c.isLt
    have h' : (c.val + 16 - a.val) % 16 = (c.val + 16 - b.val) % 16 := congrArg (fun d : Dev nD => d.val) h
    have := a.isLt; have := b.isLt
    exact Fin.ext (by omega)

/-- A device's own term and those of the writers of its slots are the terms of all the devices. -/
theorem sum_writers (f : Dev nD → EReal) (c : Dev nD) : f c + ∑ q : Fin 15, f (snd c q) = ∑ d : Dev nD, f d := by
  have h0 : order c 0 = c := Fin.ext (by
    show (c.val + 16 - 0) % 16 = c.val
    have : c.val < 16 := c.isLt
    omega)
  have hs (q : Fin 15) : order c q.succ = snd c q := Fin.ext (by
    show (c.val + 16 - (q.val + 1)) % 16 = (c.val + 15 - q.val) % 16
    congr 1; omega)
  rw [← Equiv.sum_comp (Equiv.ofBijective _ (order_bijective c)) f]
  refine Eq.trans ?_ (Fin.sum_univ_succ (fun k : Fin 16 => f (order c k))).symm
  rw [h0]
  exact congrArg (f c + ·) (Finset.sum_congr rfl fun q _ => by rw [hs q])

/-- A sum of 1024 terms, taken 64 at a time. -/
theorem sum_by_device (f : Fin 1024 → EReal) : ∑ d : Dev nD, ∑ k : Fin 64, f ⟨d.val * 64 + k.val, by
      have : d.val < 16 := d.isLt
      omega⟩ = ∑ j : Fin 1024, f j := by
  rw [← Equiv.sum_comp (finProdFinEquiv : Fin 16 × Fin 64 ≃ Fin (16 * 64)) f, Fintype.sum_prod_type]
  refine Finset.sum_congr rfl fun d _ => Finset.sum_congr rfl fun k _ => congrArg f (Fin.ext ?_)
  show d.val * 64 + k.val = k.val + 64 * d.val
  omega

/-! ### What a device reads and adds -/

section blocks

variable {F : FTy → Type} [FloatOps F] (A : Dev nD → (cc0_scratch0 : Ref sig .tc).ty.Contents (Elt F)) (c : Dev nD)

/-- Row `r` of block `c` of a device's product is its row `64 c + r`. -/
theorem rowsOf_apply (d : Dev nD) (r : Fin 64) (l : Fin 1024) :
    rowsOf A d c (ix2 r l) = A d (ix2 ⟨c.val * 64 + r.val, by
      have : c.val < 16 := c.isLt
      omega⟩ l) := by
  refine congrArg (A d) (funext fun a => Fin.ext ?_)
  match a with
  | ⟨0, _⟩ =>
    show 64 * c.val + 1 * r.val = c.val * 64 + r.val
    omega
  | ⟨1, _⟩ =>
    show 0 + 1 * l.val = l.val
    omega

/-- A slot read without its leading axis is the block that its writer sent. -/
theorem slotV_flat (q : Fin 15) (h : S1x64x1024.ShapeCasts S64x1024) : shapeCast S64x1024 (slotV A c q) h = rowsOf A (snd c q) c :=
  shapeCast_shapeCast _ _ _

end blocks

section exact

variable (A : Dev nD → (cc0_scratch0 : Ref sig .tc).ty.Contents (Elt Ideal)) (c : Dev nD)

/-- The total before GELU, at an index: the sum of the sixteen devices' block `c`. -/
theorem total_apply (i : S64x1024.Idx) :
    k0_pay7 (sum12 A c) (slotV A c 12) (slotV A c 13) (slotV A c 14) i = ∑ d : Dev nD, (rowsOf A d c i : EReal) := by
  unfold k0_pay7 sum12 k0_pay6 sum8 k0_pay5 sum4 k0_pay4 k0_pay3
  have hq (q : Fin 15) : (rowsOf A (snd c q) c i : EReal) = shapeCast S64x1024 (slotV A c q) shapeCasts_S1x64x1024_S64x1024 i :=
    (congrFun (slotV_flat A c q _) i).symm
  rw [← sum_writers (fun d => (rowsOf A d c i : EReal)) c, Finset.sum_congr rfl fun q _ => hq q]
  simp only [addf_apply, extf_apply, Fin.sum_univ_succ, Fin.sum_univ_zero]
  simp only [add_assoc, add_zero]
  rfl

/-- GELU by its tanh formula, on exact numbers. -/
def gelu (y : EReal) : EReal :=
  (Ideal.ofBits .f32 0x3F000000#32 * y)
    * (Ideal.ofBits .f32 0x3F800000#32 + Ideal.tanh (Ideal.ofBits .f32 0x3F4C422A#32 * (y + Ideal.ofBits .f32 0x3D372713#32 * (y * y * y))))

/-- What a device stores, at an index: GELU of that sum. -/
theorem result_apply (i : S64x1024.Idx) : result A c i = gelu (∑ d : Dev nD, (rowsOf A d c i : EReal)) := by
  rw [← total_apply A c i]
  unfold result k0_pay10 k0_pay8 k0_pay9
  generalize k0_pay7 (sum12 A c) (slotV A c 12) (slotV A c 13) (slotV A c 14) = T
  simp only [gelu, ← mul_assoc]
  rfl

/-- A device's product, at an index: the dot product over its own 64 columns of `x` and rows of `w`. -/
theorem product_apply (x : Vec Ideal S1024x64 .f32) (w : Vec Ideal S64x1024 .f32) (r l : Fin 1024) :
    k0_pay2 (k0_pay1 x w) (ix2 r l) = ∑ k : Fin 64, (x (ix2 r k) : EReal) * w (ix2 k l) := by
  unfold k0_pay2 k0_pay1
  rw [shapeCast_self, shapeCast_self, shapeCast_self]
  refine (Ideal.matmul_plain_apply (M := 1024) (K := 64) (N := 1024) none (truncf .bf16 x bitsLt_bf16_f32) (truncf .bf16 w bitsLt_bf16_f32) _ r l).trans ?_
  rw [constant_apply, Ideal.ofBits_zero_f32, zero_add]
  rfl

end exact

section whole

variable (m : (ℓ : Loc nD τ sig) → Buf (Elt Ideal) ℓ) (ρ : Dev nD → PrngReg) (c : Dev nD)

/-- What is staged of `x` is all that the device holds of it, -/
theorem xIn_eq : xIn m ρ c = m ((c : Thread nD τ).loc main_arg0) := by
  funext i
  refine congrArg (m ((c : Thread nD τ).loc main_arg0)) (funext fun a => Fin.ext ?_)
  match a with
  | ⟨0, _⟩ => show 0 + 1 * (i 0).val = (i 0).val; omega
  | ⟨1, _⟩ => show 0 + 1 * (i 1).val = (i 1).val; omega

/-- and of `w` likewise; -/
theorem wIn_eq : wIn m ρ c = m ((c : Thread nD τ).loc main_arg1) := by
  funext i
  refine congrArg (m ((c : Thread nD τ).loc main_arg1)) (funext fun a => Fin.ext ?_)
  match a with
  | ⟨0, _⟩ => show 0 + 1 * (i 0).val = (i 0).val; omega
  | ⟨1, _⟩ => show 0 + 1 * (i 1).val = (i 1).val; omega

/-- and the device's result array ends holding all that its body stored. -/
theorem finalA_out : finalA m ρ c (2 : Fin 3) = result (prod m ρ) c := by
  have h : (win0_2.blk t0_0).view.read (Elt Ideal) (finalA m ρ c (2 : Fin 3)) = result (prod m ρ) c := by
    unfold finalA
    rw [show cfg0.N = (t0_0 : Fin cfg0.N).val + 1 from N_0, (dats m ρ 0 c).arrAt_succ (2 : Fin 3) t0_0]
    rw [if_pos (show (cfg0.win (2 : Fin 3)).flush t0_0 = true from flush0_2 t0_0)]
    exact View.read_write_univ _ _
  rw [← h]
  funext i
  refine congrArg (finalA m ρ c (2 : Fin 3)) (funext fun a => Fin.ext ?_)
  match a with
  | ⟨0, _⟩ => show (i 0).val = 0 + 1 * (i 0).val; omega
  | ⟨1, _⟩ => show (i 1).val = 0 + 1 * (i 1).val; omega

variable {c}

/-- A device's product, in terms of the whole arrays of which it holds its part: its own 64 terms of each dot product. -/
theorem prod_apply (X W : FVec Ideal S1024x1024 .f32)
    (hX : m ((c : Thread nD τ).loc main_arg0) = Layout.block ⟨2, ![1024, 64]⟩ ⟨2, ![1024, 1024]⟩ 1 16 c X)
    (hW : m ((c : Thread nD τ).loc main_arg1) = Layout.block ⟨2, ![64, 1024]⟩ ⟨2, ![1024, 1024]⟩ 0 16 c W) (r l : Fin 1024) :
    (prod m ρ c (ix2 r l) : EReal) = ∑ k : Fin 64, (X (ix2 r ⟨c.val * 64 + k.val, by
      have : c.val < 16 := c.isLt
      omega⟩) : EReal) * W (ix2 ⟨c.val * 64 + k.val, by
      have : c.val < 16 := c.isLt
      omega⟩ l) := by
  refine (product_apply (xIn m ρ c) (wIn m ρ c) r l).trans ?_
  rw [xIn_eq, wIn_eq, hX, hW]
  refine Finset.sum_congr rfl fun k _ => congrArg₂ (· * ·) (congrArg X (funext fun a => Fin.ext ?_)) (congrArg W (funext fun a => Fin.ext ?_))
  · match a with
    | ⟨0, _⟩ => rfl
    | ⟨1, _⟩ => rfl
  · match a with
    | ⟨0, _⟩ => rfl
    | ⟨1, _⟩ => rfl

/-- The reference's result, of the whole arrays. -/
def refOut (X W : FVec Ideal S1024x1024 .f32) : FVec Ideal S1024x1024 .f32 := fun i => gelu (∑ k : Fin 1024, (X (ix2 (i 0) k) : EReal) * W (ix2 k (i 1)))

/-- When every device holds its part of `X` and of `W`, each ends with its block of rows of the reference's result. -/
theorem out_eq (X W : FVec Ideal S1024x1024 .f32)
    (hX : ∀ d : Dev nD, m ((d : Thread nD τ).loc main_arg0) = Layout.block ⟨2, ![1024, 64]⟩ ⟨2, ![1024, 1024]⟩ 1 16 d X)
    (hW : ∀ d : Dev nD, m ((d : Thread nD τ).loc main_arg1) = Layout.block ⟨2, ![64, 1024]⟩ ⟨2, ![1024, 1024]⟩ 0 16 d W) (c : Dev nD) :
    finalA m ρ c (2 : Fin 3) = Layout.block ⟨2, ![64, 1024]⟩ ⟨2, ![1024, 1024]⟩ 0 16 c (refOut X W) := by
  rw [finalA_out]
  funext i
  obtain ⟨r, l, rfl⟩ : ∃ (r : Fin 64) (l : Fin 1024), i = ix2 r l := ⟨i 0, i 1, eq_ix2 i⟩
  rw [result_apply, Layout.block_apply]
  refine congrArg gelu ((Finset.sum_congr rfl fun d _ => (rowsOf_apply (prod m ρ) c d r l).trans (prod_apply m ρ X W (hX d) (hW d) _ l)).trans ?_)
  exact sum_by_device fun k => (X (ix2 _ k) : EReal) * W (ix2 k l)

end whole

/-- What the reference's operations compute is that. -/
theorem reference_value (X W : FVec Ideal Cert.ReferenceIdeal.S1024x1024 .f32)
    (Y : FVec Ideal Cert.ReferenceIdeal.S1024x1024 .f32) (hY : Y = Host.dotGeneral Cert.ReferenceIdeal.dot_S1024x1024_S1024x1024_S1024x1024_1_0_0_1_n_n none X W)
    (i : Cert.ReferenceIdeal.S1024x1024.Idx) : refOut X W i = gelu (Y i) := by
  obtain ⟨r, l, rfl⟩ : ∃ (r : Fin 1024) (l : Fin 1024), i = ix2 r l := ⟨i 0, i 1, eq_ix2 i⟩
  rw [hY]
  exact congrArg gelu (StackMember.dotGeneral_plain_apply (m := 1024) (k := 1024) (n := 1024) none X W r l).symm

/-- The two programs compute the same values: from memories in which each device holds its part of the reference's arguments, both run,
    each device's result is its block of rows of the reference's, and all arguments are unchanged. -/
theorem algebraic : Cert.algebraic_KernelIdeal_ReferenceIdeal := by
  intro m ρ m' ρ' _ h
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · exact (θ_run defs _ _).mono (fun _ hr c => ⟨(hr.1 c (2 : Fin 3)).trans (out_eq m ρ _ _ (fun d => (h d).1) (fun d => (h d).2) c),
      (hr.1 c (0 : Fin 3)).trans (finalA_x m ρ c), (hr.1 c (1 : Fin 3)).trans (finalA_w m ρ c)⟩) (run_main m ρ)
  · refine (θ_run Cert.ReferenceIdeal.defs _ _).mono (fun _ hr => ⟨(hr 0).1.trans ?_, (hr 0).2⟩) (Cert.ReferenceIdeal.Value.run (F := Ideal) m' ρ')
    funext i
    rw [reference_value _ _ _ rfl i]
    rfl

end Cert.Scatter

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Value

@[expose] public section

noncomputable section

namespace Cert.Proof

/-- All five claims. -/
theorem claim : Cert.Claim := ⟨Cert.Kernel.Gen.facts, Cert.KernelIdeal.Gen.facts, Cert.ReferenceIdeal.Gen.facts,
  Cert.Scatter.frame_kernel, Cert.Scatter.frame_ideal, Cert.Scatter.frame_reference, trivial, Cert.Scatter.algebraic⟩

end Cert.Proof

end
